-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_points [hPre_finite_points : Cert.Pre_finite_points.Facts] (m : (ℓ : Loc Cert.KernelIdeal.nD Cert.KernelIdeal.τ Cert.KernelIdeal.sig) → Buf (Elt Ideal) ℓ) : Prop :=
  ∀ c : Dev Cert.KernelIdeal.nD,
    (Cert.Pre_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_points [hPre_finite_points : Cert.Pre_finite_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_points [hPre_finite_points : Cert.Pre_finite_points.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_points.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_points [hPre_finite_points : Cert.Pre_finite_points.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_points.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_points [hKernelIdeal : Cert.KernelIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_points m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_points [hReferenceIdeal : Cert.ReferenceIdeal.Facts] [hPre_finite_points : Cert.Pre_finite_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_points [hKernel2Ideal : Cert.Kernel2Ideal.Facts] [hPre_finite_points : Cert.Pre_finite_points.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_points m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_points [hReference2Ideal : Cert.Reference2Ideal.Facts] [hPre_finite_points : Cert.Pre_finite_points.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_points m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  True

def algebraic_KernelIdeal_ReferenceIdeal_pre_finite_points [hKernelIdeal : Cert.KernelIdeal.Facts] [hReferenceIdeal : Cert.ReferenceIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_points [hKernel2Ideal : Cert.Kernel2Ideal.Facts] [hReference2Ideal : Cert.Reference2Ideal.Facts] [hPre_finite_points : Cert.Pre_finite_points.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_points m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v109) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_points : Cert.Pre_finite_points.Facts),
    quiescent_Kernel (hKernel := hKernel)
    ∧ quiescent_KernelIdeal (hKernelIdeal := hKernelIdeal)
    ∧ quiescent_KernelIdeal_pre_finite_points (hKernelIdeal := hKernelIdeal) (hPre_finite_points := hPre_finite_points)
    ∧ quiescent_ReferenceIdeal (hReferenceIdeal := hReferenceIdeal)
    ∧ quiescent_ReferenceIdeal_pre_finite_points (hReferenceIdeal := hReferenceIdeal) (hPre_finite_points := hPre_finite_points)
    ∧ quiescent_Kernel2 (hKernel2 := hKernel2)
    ∧ quiescent_Kernel2Ideal (hKernel2Ideal := hKernel2Ideal)
    ∧ quiescent_Kernel2Ideal_pre_finite_points (hKernel2Ideal := hKernel2Ideal) (hPre_finite_points := hPre_finite_points)
    ∧ quiescent_Reference2Ideal (hReference2Ideal := hReference2Ideal)
    ∧ quiescent_Reference2Ideal_pre_finite_points (hReference2Ideal := hReference2Ideal) (hPre_finite_points := hPre_finite_points)
    ∧ preserves_Kernel_KernelIdeal
    ∧ algebraic_KernelIdeal_ReferenceIdeal_pre_finite_points (hKernelIdeal := hKernelIdeal) (hReferenceIdeal := hReferenceIdeal) (hPre_finite_points := hPre_finite_points)
    ∧ preserves_Kernel2_Kernel2Ideal
    ∧ algebraic_Kernel2Ideal_Reference2Ideal_pre_finite_points (hKernel2Ideal := hKernel2Ideal) (hReference2Ideal := hReference2Ideal) (hPre_finite_points := hPre_finite_points)
-- ==== Pre_finite_points.lean ====
abbrev S1x256x3 : Shape := ⟨3, ![1, 256, 3]⟩
abbrev S256x256 : Shape := ⟨2, ![256, 256]⟩
abbrev S256 : Shape := ⟨1, ![256]⟩
abbrev S_ : Shape := ⟨0, ![]⟩

class Facts : Prop where
  bcast_S_S1x256x3 : S_.BroadcastsInDim S1x256x3 (![] : Fin 0 → Fin S1x256x3.rank)

variable [Facts]

def fn {F : FTy → Type} [FloatOps F] (main_arg0 : FVec F S1x256x3 .f32) (main_arg1 : FVec F S256x256 .f32) (main_arg2 : FVec F S256 .f32) (main_arg3 : FVec F S256x256 .f32) (main_arg4 : FVec F S256 .f32) : IVec S1x256x3 1 :=
  let main_v0 : FVec F S1x256x3 .f32 := Host.absf main_arg0
  let main_cst : FVec F S_ .f32 := constant S_ .f32 0x7F800000#32
  let main_v1 : FVec F S1x256x3 .f32 := broadcastInDim S1x256x3 ![] bcast_S_S1x256x3 main_cst
  let main_v2 : IVec S1x256x3 1 := cmpf .olt main_v0 main_v1
  main_v2
-- ==== Kernel.lean ====
abbrev S1x256x3 : Shape := ⟨3, ![1, 256, 3]⟩
abbrev S256x256 : Shape := ⟨2, ![256, 256]⟩
abbrev S256 : Shape := ⟨1, ![256]⟩
abbrev S128 : Shape := ⟨1, ![128]⟩
abbrev S_ : Shape := ⟨0, ![]⟩
abbrev S256x8 : Shape := ⟨2, ![256, 8]⟩
abbrev S256x3 : Shape := ⟨2, ![256, 3]⟩
abbrev S1 : Shape := ⟨1, ![1]⟩
abbrev S8x256 : Shape := ⟨2, ![8, 256]⟩
abbrev S3x256 : Shape := ⟨2, ![3, 256]⟩
abbrev S3x256x256 : Shape := ⟨3, ![3, 256, 256]⟩
abbrev S256x1 : Shape := ⟨2, ![256, 1]⟩
abbrev S1x256 : Shape := ⟨2, ![1, 256]⟩
abbrev S1x256x256 : Shape := ⟨3, ![1, 256, 256]⟩
abbrev S1x3x256x256 : Shape := ⟨4, ![1, 3, 256, 256]⟩
abbrev S128x1 : Shape := ⟨2, ![128, 1]⟩
abbrev S32x8x256 : Shape := ⟨3, ![32, 8, 256]⟩
abbrev S256x128 : Shape := ⟨2, ![256, 128]⟩
abbrev S1x256x256x256 : Shape := ⟨4, ![1, 256, 256, 256]⟩
abbrev S1x8x256 : Shape := ⟨3, ![1, 8, 256]⟩
abbrev S1x3x8x256 : Shape := ⟨4, ![1, 3, 8, 256]⟩
abbrev S1x8x256x256 : Shape := ⟨4, ![1, 8, 256, 256]⟩
abbrev S8x1 : Shape := ⟨2, ![8, 1]⟩
abbrev S1x1x8x256 : Shape := ⟨4, ![1, 1, 8, 256]⟩
abbrev S8 : Shape := ⟨1, ![8]⟩
abbrev S128x256 : Shape := ⟨2, ![128, 256]⟩
abbrev S1x1x256x256 : Shape := ⟨4, ![1, 1, 256, 256]⟩

abbrev nBuf : Space → Nat
  | .hbm => 31
  | .vmem => 18
  | .smem => 0
  | _ => 0

abbrev bufTy : (tb : Table) → Fin (tcTables nBuf tb) → BufTy
  | .hbm, ⟨0, _⟩ => ⟨S1x256x3, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S128, .f32⟩
  | .hbm, ⟨6, _⟩ => ⟨S_, .f32⟩
  | .hbm, ⟨7, _⟩ => ⟨S256x8, .f32⟩
  | .hbm, ⟨8, _⟩ => ⟨S256x3, .f32⟩
  | .hbm, ⟨9, _⟩ => ⟨S_, .i32⟩
  | .hbm, ⟨10, _⟩ => ⟨S1, .i32⟩
  | .hbm, ⟨11, _⟩ => ⟨S256x8, .f32⟩
  | .hbm, ⟨12, _⟩ => ⟨S_, .f32⟩
  | .hbm, ⟨13, _⟩ => ⟨S8x256, .f32⟩
  | .hbm, ⟨14, _⟩ => ⟨S256x3, .f32⟩
  | .hbm, ⟨15, _⟩ => ⟨S3x256, .f32⟩
  | .hbm, ⟨16, _⟩ => ⟨S_, .i32⟩
  | .hbm, ⟨17, _⟩ => ⟨S1, .i32⟩
  | .hbm, ⟨18, _⟩ => ⟨S8x256, .f32⟩
  | .hbm, ⟨19, _⟩ => ⟨S256x256, .f32⟩
  | .hbm, ⟨20, _⟩ => ⟨S3x256x256, .f32⟩
  | .hbm, ⟨21, _⟩ => ⟨S1x3x256x256, .f32⟩
  | .hbm, ⟨22, _⟩ => ⟨S1x256, .f32⟩
  | .hbm, ⟨23, _⟩ => ⟨S1x256, .f32⟩
  | .hbm, ⟨24, _⟩ => ⟨S128x1, .f32⟩
  | .hbm, ⟨25, _⟩ => ⟨S32x8x256, .f32⟩
  | .hbm, ⟨26, _⟩ => ⟨S256x128, .f32⟩
  | .hbm, ⟨27, _⟩ => ⟨S256x128, .f32⟩
  | .hbm, ⟨28, _⟩ => ⟨S256x128, .f32⟩
  | .hbm, ⟨29, _⟩ => ⟨S256x128, .f32⟩
  | .hbm, ⟨30, _⟩ => ⟨S1x256x256x256, .f32⟩
  | .local _ .vmem, ⟨0, _⟩ => ⟨S256x8, .f32⟩
  | .local _ .vmem, ⟨1, _⟩ => ⟨S256x256, .f32⟩
  | .local _ .vmem, ⟨2, _⟩ => ⟨S3x256x256, .f32⟩
  | .local _ .vmem, ⟨3, _⟩ => ⟨S256x8, .f32⟩
  | .local _ .vmem, ⟨4, _⟩ => ⟨S8x256, .f32⟩
  | .local _ .vmem, ⟨5, _⟩ => ⟨S1x8x256, .f32⟩
  | .local _ .vmem, ⟨6, _⟩ => ⟨S1x8x256, .f32⟩
  | .local _ .vmem, ⟨7, _⟩ => ⟨S1x3x8x256, .f32⟩
  | .local _ .vmem, ⟨8, _⟩ => ⟨S1x3x8x256, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S1x256, .f32⟩
  | .local _ .vmem, ⟨14, _⟩ => ⟨S1x256, .f32⟩
  | .local _ .vmem, ⟨15, _⟩ => ⟨S128x1, .f32⟩
  | .local _ .vmem, ⟨16, _⟩ => ⟨S1x8x256x256, .f32⟩
  | .local _ .vmem, ⟨17, _⟩ => ⟨S1x8x256x256, .f32⟩
  | _, _ => ⟨S1x256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc1_stg9_0 : Ref sig .tc := ⟨.vmem, 14, rfl⟩
abbrev cc1_stg10_0 : Ref sig .tc := ⟨.vmem, 15, rfl⟩
abbrev cc1_stg11_0 : Ref sig .tc := ⟨.vmem, 16, rfl⟩
abbrev cc1_stg11_1 : Ref sig .tc := ⟨.vmem, 17, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem2_1 : DmaSem sig := 6
abbrev cc1_sem3_0 : DmaSem sig := 7
abbrev cc1_sem3_1 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem11_0 : DmaSem sig := 16
abbrev cc1_sem11_1 : DmaSem sig := 17

abbrev nD : Nat := 1
abbrev τ : Topo := Topo.v7x

variable {F : FTy → Type} [FloatOps F]

abbrev grid0 : Pipeline.Grid := .none

abbrev stage0_0 : Fin 1 → Memref sig .tc .vmem S256x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![32], ![false]⟩

def k1_off1 (i : grid1.Coords) : Fin 2 → Nat :=
  let arg0 : BitVec 32 := BitVec.ofNat 32 (i 0).val
  let c8_i32 : BitVec 32 := 8#32
  let v9 : BitVec 32 := Scalar.muli arg0 c8_i32
  let v10 : Index := Scalar.indexCast v9
  let c0_4 : Index := 0#32
  ![v10.toNat, 0]
def k1_off2 (i : grid1.Coords) : Fin 2 → Nat :=
  let arg0 : BitVec 32 := BitVec.ofNat 32 (i 0).val
  let c8_i32_5 : BitVec 32 := 8#32
  let v13 : BitVec 32 := Scalar.muli arg0 c8_i32_5
  let v14 : Index := Scalar.indexCast v13
  let c1 : Index := 1#32
  ![v14.toNat, 1]
def k1_off3 (i : grid1.Coords) : Fin 2 → Nat :=
  let arg0 : BitVec 32 := BitVec.ofNat 32 (i 0).val
  let c8_i32_6 : BitVec 32 := 8#32
  let v17 : BitVec 32 := Scalar.muli arg0 c8_i32_6
  let v18 : Index := Scalar.indexCast v17
  let c2 : Index := 2#32
  ![v18.toNat, 2]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 1 → Memref sig .tc .vmem S256x8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x8x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x3x8x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1x8x256x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== ReferenceIdeal.lean ====
abbrev S1x256x3 : Shape := ⟨3, ![1, 256, 3]⟩
abbrev S256x256 : Shape := ⟨2, ![256, 256]⟩
abbrev S256 : Shape := ⟨1, ![256]⟩
abbrev S128 : Shape := ⟨1, ![128]⟩
abbrev S1x3x256 : Shape := ⟨3, ![1, 3, 256]⟩
abbrev S256x3 : Shape := ⟨2, ![256, 3]⟩
abbrev S3x256 : Shape := ⟨2, ![3, 256]⟩
abbrev S1x256x256 : Shape := ⟨3, ![1, 256, 256]⟩
abbrev S_ : Shape := ⟨0, ![]⟩
abbrev S1x256 : Shape := ⟨2, ![1, 256]⟩
abbrev S1x256x1 : Shape := ⟨3, ![1, 256, 1]⟩
abbrev S1x1x256 : Shape := ⟨3, ![1, 1, 256]⟩
abbrev S1x256x4 : Shape := ⟨3, ![1, 256, 4]⟩
abbrev S1x256x3x1 : Shape := ⟨4, ![1, 256, 3, 1]⟩
abbrev S1x256x3x3 : Shape := ⟨4, ![1, 256, 3, 3]⟩
abbrev S1x256x1x3 : Shape := ⟨4, ![1, 256, 1, 3]⟩
abbrev S1x1x256x3 : Shape := ⟨4, ![1, 1, 256, 3]⟩
abbrev S1x256x256x3 : Shape := ⟨4, ![1, 256, 256, 3]⟩
abbrev S1x256x1x3x3 : Shape := ⟨5, ![1, 256, 1, 3, 3]⟩
abbrev S1x256x256x1x3 : Shape := ⟨5, ![1, 256, 256, 1, 3]⟩
abbrev S1x256x256x3x3 : Shape := ⟨5, ![1, 256, 256, 3, 3]⟩
abbrev S3x1x256x256x3 : Shape := ⟨5, ![3, 1, 256, 256, 3]⟩
abbrev S1x1x256x256x3 : Shape := ⟨5, ![1, 1, 256, 256, 3]⟩
abbrev S1x256x256x3x1 : Shape := ⟨5, ![1, 256, 256, 3, 1]⟩
abbrev S65536x1x1 : Shape := ⟨3, ![65536, 1, 1]⟩
abbrev S1x128x1 : Shape := ⟨3, ![1, 128, 1]⟩
abbrev S65536x128x1 : Shape := ⟨3, ![65536, 128, 1]⟩
abbrev S65536x128x2 : Shape := ⟨3, ![65536, 128, 2]⟩
abbrev S1x256x256x256 : Shape := ⟨4, ![1, 256, 256, 256]⟩
abbrev S1x1x1x256 : Shape := ⟨4, ![1, 1, 1, 256]⟩
abbrev S196608x1x1 : Shape := ⟨3, ![196608, 1, 1]⟩
abbrev S196608x128x1 : Shape := ⟨3, ![196608, 128, 1]⟩
abbrev S196608x128x2 : Shape := ⟨3, ![196608, 128, 2]⟩
abbrev S1x256x256x3x256 : Shape := ⟨5, ![1, 256, 256, 3, 256]⟩
abbrev S1x1x1x1x256 : Shape := ⟨5, ![1, 1, 1, 1, 256]⟩

abbrev nBuf : Space → Nat
  | .hbm => 272
  | .vmem => 0
  | .smem => 0
  | _ => 0

abbrev hbmTy0_0 (i : Nat) : BufTy := match i % 128 with
  | 0 => ⟨S1x256x3, .f32⟩
  | 1 => ⟨S256x256, .f32⟩
  | 2 => ⟨S256, .f32⟩
  | 3 => ⟨S256x256, .f32⟩
  | 4 => ⟨S256, .f32⟩
  | 5 => ⟨S128, .f32⟩
  | 6 => ⟨S128, .f32⟩
  | 7 => ⟨S1x3x256, .f32⟩
  | 8 => ⟨S256x3, .f32⟩
  | 9 => ⟨S3x256, .f32⟩
  | 10 => ⟨S256x256, .f32⟩
  | 11 => ⟨S1x256x256, .f32⟩
  | 12 => ⟨S1x256x3, .f32⟩
  | 13 => ⟨S_, .f32⟩
  | 14 => ⟨S1x256, .f32⟩
  | 15 => ⟨S1x256x1, .f32⟩
  | 16 => ⟨S1x256x3, .f32⟩
  | 17 => ⟨S_, .f32⟩
  | 18 => ⟨S1x256, .f32⟩
  | 19 => ⟨S1x1x256, .f32⟩
  | 20 => ⟨S_, .f32⟩
  | 21 => ⟨S1x256x256, .f32⟩
  | 22 => ⟨S1x256x256, .f32⟩
  | 23 => ⟨S1x256x256, .f32⟩
  | 24 => ⟨S1x256x256, .f32⟩
  | 25 => ⟨S1x256x256, .f32⟩
  | 26 => ⟨S1x256x256, .f32⟩
  | 27 => ⟨S_, .f32⟩
  | 28 => ⟨S1x256x256, .f32⟩
  | 29 => ⟨S1x256x256, .f32⟩
  | 30 => ⟨S1x256x256, .f32⟩
  | 31 => ⟨S_, .f32⟩
  | 32 => ⟨S1x256x256, .f32⟩
  | 33 => ⟨S1x256x256, .f32⟩
  | 34 => ⟨S1x256x256, .f32⟩
  | 35 => ⟨S1x256x4, .f32⟩
  | 36 => ⟨S1x256x4, .i32⟩
  | 37 => ⟨S1x256x3, .i32⟩
  | 38 => ⟨S_, .i32⟩
  | 39 => ⟨S1x256x3, .i32⟩
  | 40 => ⟨S1x256x3, .i1⟩
  | 41 => ⟨S_, .i32⟩
  | 42 => ⟨S1x256x3, .i32⟩
  | 43 => ⟨S1x256x3, .i32⟩
  | 44 => ⟨S1x256x3, .i32⟩
  | 45 => ⟨S1x256x3x1, .i32⟩
  | 46 => ⟨S1x256x3x3, .f32⟩
  | 47 => ⟨S1x256x1x3, .f32⟩
  | 48 => ⟨S1x256x3x3, .f32⟩
  | 49 => ⟨S1x256x3x3, .f32⟩
  | 50 => ⟨S1x1x256x3, .f32⟩
  | 51 => ⟨S1x256x1x3, .f32⟩
  | 52 => ⟨S1x256x256x3, .f32⟩
  | 53 => ⟨S1x256x256x3, .f32⟩
  | 54 => ⟨S1x256x256x3, .f32⟩
  | 55 => ⟨S1x256x1x3x3, .f32⟩
  | 56 => ⟨S1x256x256x1x3, .f32⟩
  | 57 => ⟨S1x256x256x3x3, .f32⟩
  | 58 => ⟨S1x256x256x3x3, .f32⟩
  | 59 => ⟨S3x1x256x256x3, .f32⟩
  | 60 => ⟨S3x1x256x256x3, .f32⟩
  | 61 => ⟨S1x1x256x256x3, .f32⟩
  | 62 => ⟨S1x256x256x3, .f32⟩
  | 63 => ⟨S1x1x256x256x3, .f32⟩
  | 64 => ⟨S1x256x256x3, .f32⟩
  | 65 => ⟨S1x1x256x256x3, .f32⟩
  | 66 => ⟨S1x256x256x3, .f32⟩
  | 67 => ⟨S1x1x256x256x3, .f32⟩
  | 68 => ⟨S1x256x256x3, .f32⟩
  | 69 => ⟨S1x1x256x256x3, .f32⟩
  | 70 => ⟨S1x256x256x3, .f32⟩
  | 71 => ⟨S1x1x256x256x3, .f32⟩
  | 72 => ⟨S1x256x256x3, .f32⟩
  | 73 => ⟨S1x256x256x3, .f32⟩
  | 74 => ⟨S1x256x256x3, .f32⟩
  | 75 => ⟨S1x256x256x3, .f32⟩
  | 76 => ⟨S1x256x256x3, .f32⟩
  | 77 => ⟨S1x256x256x3, .f32⟩
  | 78 => ⟨S1x256x256x3, .f32⟩
  | 79 => ⟨S1x256x256x3, .f32⟩
  | 80 => ⟨S1x256x256x3, .f32⟩
  | 81 => ⟨S1x256x256x3, .f32⟩
  | 82 => ⟨S1x256x256x3x1, .f32⟩
  | 83 => ⟨S1x256x256x3x1, .f32⟩
  | 84 => ⟨S1x256x256x3x1, .f32⟩
  | 85 => ⟨S1x256x256x3x3, .f32⟩
  | 86 => ⟨S1x256x256x3x3, .f32⟩
  | 87 => ⟨S_, .f32⟩
  | 88 => ⟨S1x256x256x3, .f32⟩
  | 89 => ⟨S1x256x256x3, .f32⟩
  | 90 => ⟨S1x256x256x3x3, .f32⟩
  | 91 => ⟨S1x256x256x3x3, .f32⟩
  | 92 => ⟨S1x256x256x3x3, .f32⟩
  | 93 => ⟨S_, .f32⟩
  | 94 => ⟨S1x256x256x3, .f32⟩
  | 95 => ⟨S1x256x256x3, .f32⟩
  | 96 => ⟨S_, .f32⟩
  | 97 => ⟨S1x256x256x3, .f32⟩
  | 98 => ⟨S1x256x256x3, .f32⟩
  | 99 => ⟨S65536x1x1, .f32⟩
  | 100 => ⟨S1x128x1, .f32⟩
  | 101 => ⟨S65536x128x1, .f32⟩
  | 102 => ⟨S65536x128x1, .f32⟩
  | 103 => ⟨S65536x128x1, .f32⟩
  | 104 => ⟨S_, .f32⟩
  | 105 => ⟨S65536x128x1, .f32⟩
  | 106 => ⟨S65536x128x1, .f32⟩
  | 107 => ⟨S65536x128x1, .f32⟩
  | 108 => ⟨S65536x128x1, .i32⟩
  | 109 => ⟨S_, .f32⟩
  | 110 => ⟨S65536x128x1, .f32⟩
  | 111 => ⟨S65536x128x1, .f32⟩
  | 112 => ⟨S65536x128x1, .f32⟩
  | 113 => ⟨S65536x128x1, .f32⟩
  | 114 => ⟨S65536x128x1, .f32⟩
  | 115 => ⟨S_, .f32⟩
  | 116 => ⟨S65536x128x1, .f32⟩
  | 117 => ⟨S65536x128x1, .f32⟩
  | 118 => ⟨S_, .f32⟩
  | 119 => ⟨S65536x128x1, .f32⟩
  | 120 => ⟨S65536x128x1, .f32⟩
  | 121 => ⟨S65536x128x1, .f32⟩
  | 122 => ⟨S_, .f32⟩
  | 123 => ⟨S65536x128x1, .f32⟩
  | 124 => ⟨S65536x128x1, .f32⟩
  | 125 => ⟨S65536x128x1, .f32⟩
  | 126 => ⟨S65536x128x1, .f32⟩
  | 127 => ⟨S65536x128x1, .f32⟩
  | _ => ⟨S1x256x3, .f32⟩

abbrev hbmTy0_1 (i : Nat) : BufTy := match i % 128 with
  | 0 => ⟨S_, .f32⟩
  | 1 => ⟨S65536x128x1, .f32⟩
  | 2 => ⟨S65536x128x1, .f32⟩
  | 3 => ⟨S_, .f32⟩
  | 4 => ⟨S65536x128x1, .f32⟩
  | 5 => ⟨S65536x128x1, .f32⟩
  | 6 => ⟨S65536x128x1, .f32⟩
  | 7 => ⟨S_, .f32⟩
  | 8 => ⟨S65536x128x1, .f32⟩
  | 9 => ⟨S65536x128x1, .f32⟩
  | 10 => ⟨S65536x128x1, .f32⟩
  | 11 => ⟨S_, .f32⟩
  | 12 => ⟨S65536x128x1, .f32⟩
  | 13 => ⟨S65536x128x1, .f32⟩
  | 14 => ⟨S65536x128x1, .f32⟩
  | 15 => ⟨S_, .f32⟩
  | 16 => ⟨S65536x128x1, .f32⟩
  | 17 => ⟨S65536x128x1, .f32⟩
  | 18 => ⟨S_, .i32⟩
  | 19 => ⟨S65536x128x1, .i32⟩
  | 20 => ⟨S65536x128x1, .i32⟩
  | 21 => ⟨S65536x128x1, .f32⟩
  | 22 => ⟨S65536x128x1, .f32⟩
  | 23 => ⟨S_, .i32⟩
  | 24 => ⟨S65536x128x1, .i32⟩
  | 25 => ⟨S65536x128x1, .i1⟩
  | 26 => ⟨S_, .i32⟩
  | 27 => ⟨S65536x128x1, .i32⟩
  | 28 => ⟨S65536x128x1, .i1⟩
  | 29 => ⟨S_, .i32⟩
  | 30 => ⟨S65536x128x1, .i32⟩
  | 31 => ⟨S65536x128x1, .i1⟩
  | 32 => ⟨S65536x128x1, .f32⟩
  | 33 => ⟨S65536x128x1, .f32⟩
  | 34 => ⟨S65536x128x1, .f32⟩
  | 35 => ⟨S65536x128x1, .f32⟩
  | 36 => ⟨S65536x128x1, .f32⟩
  | 37 => ⟨S_, .i32⟩
  | 38 => ⟨S65536x128x1, .i32⟩
  | 39 => ⟨S65536x128x1, .i1⟩
  | 40 => ⟨S_, .i32⟩
  | 41 => ⟨S65536x128x1, .i32⟩
  | 42 => ⟨S65536x128x1, .i1⟩
  | 43 => ⟨S_, .i32⟩
  | 44 => ⟨S65536x128x1, .i32⟩
  | 45 => ⟨S65536x128x1, .i1⟩
  | 46 => ⟨S65536x128x1, .f32⟩
  | 47 => ⟨S65536x128x1, .f32⟩
  | 48 => ⟨S65536x128x1, .f32⟩
  | 49 => ⟨S65536x128x2, .f32⟩
  | 50 => ⟨S1x256x256x256, .f32⟩
  | 51 => ⟨S256x256, .f32⟩
  | 52 => ⟨S1x256x256x256, .f32⟩
  | 53 => ⟨S1x1x1x256, .f32⟩
  | 54 => ⟨S1x256x256x256, .f32⟩
  | 55 => ⟨S1x256x256x256, .f32⟩
  | 56 => ⟨S196608x1x1, .f32⟩
  | 57 => ⟨S1x128x1, .f32⟩
  | 58 => ⟨S196608x128x1, .f32⟩
  | 59 => ⟨S196608x128x1, .f32⟩
  | 60 => ⟨S196608x128x1, .f32⟩
  | 61 => ⟨S_, .f32⟩
  | 62 => ⟨S196608x128x1, .f32⟩
  | 63 => ⟨S196608x128x1, .f32⟩
  | 64 => ⟨S196608x128x1, .f32⟩
  | 65 => ⟨S196608x128x1, .i32⟩
  | 66 => ⟨S_, .f32⟩
  | 67 => ⟨S196608x128x1, .f32⟩
  | 68 => ⟨S196608x128x1, .f32⟩
  | 69 => ⟨S196608x128x1, .f32⟩
  | 70 => ⟨S196608x128x1, .f32⟩
  | 71 => ⟨S196608x128x1, .f32⟩
  | 72 => ⟨S_, .f32⟩
  | 73 => ⟨S196608x128x1, .f32⟩
  | 74 => ⟨S196608x128x1, .f32⟩
  | 75 => ⟨S_, .f32⟩
  | 76 => ⟨S196608x128x1, .f32⟩
  | 77 => ⟨S196608x128x1, .f32⟩
  | 78 => ⟨S196608x128x1, .f32⟩
  | 79 => ⟨S_, .f32⟩
  | 80 => ⟨S196608x128x1, .f32⟩
  | 81 => ⟨S196608x128x1, .f32⟩
  | 82 => ⟨S196608x128x1, .f32⟩
  | 83 => ⟨S196608x128x1, .f32⟩
  | 84 => ⟨S196608x128x1, .f32⟩
  | 85 => ⟨S_, .f32⟩
  | 86 => ⟨S196608x128x1, .f32⟩
  | 87 => ⟨S196608x128x1, .f32⟩
  | 88 => ⟨S_, .f32⟩
  | 89 => ⟨S196608x128x1, .f32⟩
  | 90 => ⟨S196608x128x1, .f32⟩
  | 91 => ⟨S196608x128x1, .f32⟩
  | 92 => ⟨S_, .f32⟩
  | 93 => ⟨S196608x128x1, .f32⟩
  | 94 => ⟨S196608x128x1, .f32⟩
  | 95 => ⟨S196608x128x1, .f32⟩
  | 96 => ⟨S_, .f32⟩
  | 97 => ⟨S196608x128x1, .f32⟩
  | 98 => ⟨S196608x128x1, .f32⟩
  | 99 => ⟨S196608x128x1, .f32⟩
  | 100 => ⟨S_, .f32⟩
  | 101 => ⟨S196608x128x1, .f32⟩
  | 102 => ⟨S196608x128x1, .f32⟩
  | 103 => ⟨S_, .i32⟩
  | 104 => ⟨S196608x128x1, .i32⟩
  | 105 => ⟨S196608x128x1, .i32⟩
  | 106 => ⟨S196608x128x1, .f32⟩
  | 107 => ⟨S196608x128x1, .f32⟩
  | 108 => ⟨S_, .i32⟩
  | 109 => ⟨S196608x128x1, .i32⟩
  | 110 => ⟨S196608x128x1, .i1⟩
  | 111 => ⟨S_, .i32⟩
  | 112 => ⟨S196608x128x1, .i32⟩
  | 113 => ⟨S196608x128x1, .i1⟩
  | 114 => ⟨S_, .i32⟩
  | 115 => ⟨S196608x128x1, .i32⟩
  | 116 => ⟨S196608x128x1, .i1⟩
  | 117 => ⟨S196608x128x1, .f32⟩
  | 118 => ⟨S196608x128x1, .f32⟩
  | 119 => ⟨S196608x128x1, .f32⟩
  | 120 => ⟨S196608x128x1, .f32⟩
  | 121 => ⟨S196608x128x1, .f32⟩
  | 122 => ⟨S_, .i32⟩
  | 123 => ⟨S196608x128x1, .i32⟩
  | 124 => ⟨S196608x128x1, .i1⟩
  | 125 => ⟨S_, .i32⟩
  | 126 => ⟨S196608x128x1, .i32⟩
  | 127 => ⟨S196608x128x1, .i1⟩
  | _ => ⟨S1x256x3, .f32⟩

abbrev hbmTy0_2 (i : Nat) : BufTy := match i % 128 with
  | 0 => ⟨S_, .i32⟩
  | 1 => ⟨S196608x128x1, .i32⟩
  | 2 => ⟨S196608x128x1, .i1⟩
  | 3 => ⟨S196608x128x1, .f32⟩
  | 4 => ⟨S196608x128x1, .f32⟩
  | 5 => ⟨S196608x128x1, .f32⟩
  | 6 => ⟨S196608x128x2, .f32⟩
  | 7 => ⟨S1x256x256x3x256, .f32⟩
  | 8 => ⟨S256x256, .f32⟩
  | 9 => ⟨S1x256x256x3x256, .f32⟩
  | 10 => ⟨S1x1x1x1x256, .f32⟩
  | 11 => ⟨S1x256x256x3x256, .f32⟩
  | 12 => ⟨S1x256x256x3x256, .f32⟩
  | 13 => ⟨S_, .f32⟩
  | 14 => ⟨S1x256x256x256, .f32⟩
  | 15 => ⟨S1x256x256x256, .f32⟩
  | _ => ⟨S1x256x3, .f32⟩

abbrev hbmTy (i : Nat) : BufTy := match i / 128 with
  | 0 => hbmTy0_0 i
  | 1 => hbmTy0_1 i
  | 2 => hbmTy0_2 i
  | _ => ⟨S1x256x3, .f32⟩

abbrev bufTy : (tb : Table) → Fin (tcTables nBuf tb) → BufTy
  | .hbm, ⟨i, _⟩ => hbmTy i
  | _, _ => ⟨S1x256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_values : Ref sig .tc := ⟨.hbm, 35, rfl⟩
abbrev main_indices : Ref sig .tc := ⟨.hbm, 36, rfl⟩
abbrev main_v23 : Ref sig .tc := ⟨.hbm, 37, rfl⟩
abbrev main_c : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_7 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_8 : Ref sig .tc := ⟨.hbm, 93, rfl⟩
abbrev main_v76 : Ref sig .tc := ⟨.hbm, 94, rfl⟩
abbrev main_v77 : Ref sig .tc := ⟨.hbm, 95, rfl⟩
abbrev main_cst_9 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_10 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_cst_11 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_cst_12 : Ref sig .tc := ⟨.hbm, 115, rfl⟩
abbrev main_v94 : Ref sig .tc := ⟨.hbm, 116, rfl⟩
abbrev main_v95 : Ref sig .tc := ⟨.hbm, 117, rfl⟩
abbrev main_cst_13 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_cst_14 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_15 : Ref sig .tc := ⟨.hbm, 128, rfl⟩
abbrev main_v104 : Ref sig .tc := ⟨.hbm, 129, rfl⟩
abbrev main_v105 : Ref sig .tc := ⟨.hbm, 130, rfl⟩
abbrev main_cst_16 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_cst_17 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_18 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_cst_19 : Ref sig .tc := ⟨.hbm, 143, rfl⟩
abbrev main_v115 : Ref sig .tc := ⟨.hbm, 144, rfl⟩
abbrev main_v116 : Ref sig .tc := ⟨.hbm, 145, rfl⟩
abbrev main_c_20 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_c_21 : Ref sig .tc := ⟨.hbm, 151, rfl⟩
abbrev main_v121 : Ref sig .tc := ⟨.hbm, 152, rfl⟩
abbrev main_v122 : Ref sig .tc := ⟨.hbm, 153, rfl⟩
abbrev main_c_22 : Ref sig .tc := ⟨.hbm, 154, rfl⟩
abbrev main_v123 : Ref sig .tc := ⟨.hbm, 155, rfl⟩
abbrev main_v124 : Ref sig .tc := ⟨.hbm, 156, rfl⟩
abbrev main_c_23 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_c_24 : Ref sig .tc := ⟨.hbm, 165, rfl⟩
abbrev main_v132 : Ref sig .tc := ⟨.hbm, 166, rfl⟩
abbrev main_v133 : Ref sig .tc := ⟨.hbm, 167, rfl⟩
abbrev main_c_25 : Ref sig .tc := ⟨.hbm, 168, rfl⟩
abbrev main_v134 : Ref sig .tc := ⟨.hbm, 169, rfl⟩
abbrev main_v135 : Ref sig .tc := ⟨.hbm, 170, rfl⟩
abbrev main_c_26 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_cst_27 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_cst_28 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_cst_29 : Ref sig .tc := ⟨.hbm, 200, rfl⟩
abbrev main_v162 : Ref sig .tc := ⟨.hbm, 201, rfl⟩
abbrev main_v163 : Ref sig .tc := ⟨.hbm, 202, rfl⟩
abbrev main_cst_30 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_cst_31 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_cst_32 : Ref sig .tc := ⟨.hbm, 213, rfl⟩
abbrev main_v172 : Ref sig .tc := ⟨.hbm, 214, rfl⟩
abbrev main_v173 : Ref sig .tc := ⟨.hbm, 215, rfl⟩
abbrev main_cst_33 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_cst_34 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_cst_35 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_cst_36 : Ref sig .tc := ⟨.hbm, 228, rfl⟩
abbrev main_v183 : Ref sig .tc := ⟨.hbm, 229, rfl⟩
abbrev main_v184 : Ref sig .tc := ⟨.hbm, 230, rfl⟩
abbrev main_c_37 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_c_38 : Ref sig .tc := ⟨.hbm, 236, rfl⟩
abbrev main_v189 : Ref sig .tc := ⟨.hbm, 237, rfl⟩
abbrev main_v190 : Ref sig .tc := ⟨.hbm, 238, rfl⟩
abbrev main_c_39 : Ref sig .tc := ⟨.hbm, 239, rfl⟩
abbrev main_v191 : Ref sig .tc := ⟨.hbm, 240, rfl⟩
abbrev main_v192 : Ref sig .tc := ⟨.hbm, 241, rfl⟩
abbrev main_c_40 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_c_41 : Ref sig .tc := ⟨.hbm, 250, rfl⟩
abbrev main_v200 : Ref sig .tc := ⟨.hbm, 251, rfl⟩
abbrev main_v201 : Ref sig .tc := ⟨.hbm, 252, rfl⟩
abbrev main_c_42 : Ref sig .tc := ⟨.hbm, 253, rfl⟩
abbrev main_v202 : Ref sig .tc := ⟨.hbm, 254, rfl⟩
abbrev main_v203 : Ref sig .tc := ⟨.hbm, 255, rfl⟩
abbrev main_c_43 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_cst_44 : Ref sig .tc := ⟨.hbm, 269, rfl⟩
abbrev main_v216 : Ref sig .tc := ⟨.hbm, 270, rfl⟩
abbrev main_v217 : Ref sig .tc := ⟨.hbm, 271, rfl⟩

abbrev nD : Nat := 1
abbrev τ : Topo := Topo.v7x

variable {F : FTy → Type} [FloatOps F]
-- ==== Kernel2.lean ====
abbrev S1x256x3 : Shape := ⟨3, ![1, 256, 3]⟩
abbrev S256x256 : Shape := ⟨2, ![256, 256]⟩
abbrev S256 : Shape := ⟨1, ![256]⟩
abbrev S128 : Shape := ⟨1, ![128]⟩
abbrev S_ : Shape := ⟨0, ![]⟩
abbrev S256x8 : Shape := ⟨2, ![256, 8]⟩
abbrev S256x3 : Shape := ⟨2, ![256, 3]⟩
abbrev S1 : Shape := ⟨1, ![1]⟩
abbrev S3x256x256 : Shape := ⟨3, ![3, 256, 256]⟩
abbrev S256x1 : Shape := ⟨2, ![256, 1]⟩
abbrev S1x256 : Shape := ⟨2, ![1, 256]⟩
abbrev S1x256x256 : Shape := ⟨3, ![1, 256, 256]⟩
abbrev S256x32x8 : Shape := ⟨3, ![256, 32, 8]⟩
abbrev S32x256x8 : Shape := ⟨3, ![32, 256, 8]⟩
abbrev S3x256x32x8 : Shape := ⟨4, ![3, 256, 32, 8]⟩
abbrev S32x3x256x8 : Shape := ⟨4, ![32, 3, 256, 8]⟩
abbrev S32x8x8 : Shape := ⟨3, ![32, 8, 8]⟩
abbrev S256x128 : Shape := ⟨2, ![256, 128]⟩
abbrev S1x128 : Shape := ⟨2, ![1, 128]⟩
abbrev S1x256x256x256 : Shape := ⟨4, ![1, 256, 256, 256]⟩
abbrev S1x8x8 : Shape := ⟨3, ![1, 8, 8]⟩
abbrev S1x256x8 : Shape := ⟨3, ![1, 256, 8]⟩
abbrev S1x3x256x8 : Shape := ⟨4, ![1, 3, 256, 8]⟩
abbrev S1x8x256x256 : Shape := ⟨4, ![1, 8, 256, 256]⟩
abbrev S8x8 : Shape := ⟨2, ![8, 8]⟩
abbrev S1x8 : Shape := ⟨2, ![1, 8]⟩
abbrev S1x1x256x8 : Shape := ⟨4, ![1, 1, 256, 8]⟩
abbrev S8 : Shape := ⟨1, ![8]⟩
abbrev S2048x128 : Shape := ⟨2, ![2048, 128]⟩
abbrev S2048x256 : Shape := ⟨2, ![2048, 256]⟩
abbrev S6144x128 : Shape := ⟨2, ![6144, 128]⟩
abbrev S6144x256 : Shape := ⟨2, ![6144, 256]⟩

abbrev nBuf : Space → Nat
  | .hbm => 32
  | .vmem => 17
  | .smem => 0
  | _ => 0

abbrev bufTy : (tb : Table) → Fin (tcTables nBuf tb) → BufTy
  | .hbm, ⟨0, _⟩ => ⟨S1x256x3, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S128, .f32⟩
  | .hbm, ⟨6, _⟩ => ⟨S_, .f32⟩
  | .hbm, ⟨7, _⟩ => ⟨S256x8, .f32⟩
  | .hbm, ⟨8, _⟩ => ⟨S256x3, .f32⟩
  | .hbm, ⟨9, _⟩ => ⟨S_, .i32⟩
  | .hbm, ⟨10, _⟩ => ⟨S1, .i32⟩
  | .hbm, ⟨11, _⟩ => ⟨S256x8, .f32⟩
  | .hbm, ⟨12, _⟩ => ⟨S256x256, .f32⟩
  | .hbm, ⟨13, _⟩ => ⟨S3x256x256, .f32⟩
  | .hbm, ⟨14, _⟩ => ⟨S256x256, .f32⟩
  | .hbm, ⟨15, _⟩ => ⟨S256x32x8, .f32⟩
  | .hbm, ⟨16, _⟩ => ⟨S32x256x8, .f32⟩
  | .hbm, ⟨17, _⟩ => ⟨S3x256x256, .f32⟩
  | .hbm, ⟨18, _⟩ => ⟨S3x256x32x8, .f32⟩
  | .hbm, ⟨19, _⟩ => ⟨S32x3x256x8, .f32⟩
  | .hbm, ⟨20, _⟩ => ⟨S32x8x8, .f32⟩
  | .hbm, ⟨21, _⟩ => ⟨S32x8x8, .f32⟩
  | .hbm, ⟨22, _⟩ => ⟨S256x128, .f32⟩
  | .hbm, ⟨23, _⟩ => ⟨S256x128, .f32⟩
  | .hbm, ⟨24, _⟩ => ⟨S256x256, .f32⟩
  | .hbm, ⟨25, _⟩ => ⟨S256x128, .f32⟩
  | .hbm, ⟨26, _⟩ => ⟨S256x128, .f32⟩
  | .hbm, ⟨27, _⟩ => ⟨S256x256, .f32⟩
  | .hbm, ⟨28, _⟩ => ⟨S1x256, .f32⟩
  | .hbm, ⟨29, _⟩ => ⟨S1x256, .f32⟩
  | .hbm, ⟨30, _⟩ => ⟨S1x128, .f32⟩
  | .hbm, ⟨31, _⟩ => ⟨S1x256x256x256, .f32⟩
  | .local _ .vmem, ⟨0, _⟩ => ⟨S256x8, .f32⟩
  | .local _ .vmem, ⟨1, _⟩ => ⟨S256x256, .f32⟩
  | .local _ .vmem, ⟨2, _⟩ => ⟨S3x256x256, .f32⟩
  | .local _ .vmem, ⟨3, _⟩ => ⟨S256x8, .f32⟩
  | .local _ .vmem, ⟨4, _⟩ => ⟨S1x8x8, .f32⟩
  | .local _ .vmem, ⟨5, _⟩ => ⟨S1x8x8, .f32⟩
  | .local _ .vmem, ⟨6, _⟩ => ⟨S1x256x8, .f32⟩
  | .local _ .vmem, ⟨7, _⟩ => ⟨S1x256x8, .f32⟩
  | .local _ .vmem, ⟨8, _⟩ => ⟨S1x3x256x8, .f32⟩
  | .local _ .vmem, ⟨9, _⟩ => ⟨S1x3x256x8, .f32⟩
  | .local _ .vmem, ⟨10, _⟩ => ⟨S256x256, .f32⟩
  | .local _ .vmem, ⟨11, _⟩ => ⟨S256x256, .f32⟩
  | .local _ .vmem, ⟨12, _⟩ => ⟨S1x256, .f32⟩
  | .local _ .vmem, ⟨13, _⟩ => ⟨S1x256, .f32⟩
  | .local _ .vmem, ⟨14, _⟩ => ⟨S1x128, .f32⟩
  | .local _ .vmem, ⟨15, _⟩ => ⟨S1x8x256x256, .f32⟩
  | .local _ .vmem, ⟨16, _⟩ => ⟨S1x8x256x256, .f32⟩
  | _, _ => ⟨S1x256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg9_1 : Ref sig .tc := ⟨.vmem, 16, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem9_1 : DmaSem sig := 16

abbrev nD : Nat := 1
abbrev τ : Topo := Topo.v7x

variable {F : FTy → Type} [FloatOps F]

abbrev grid0 : Pipeline.Grid := .none

abbrev stage0_0 : Fin 1 → Memref sig .tc .vmem S256x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 1 → Memref sig .tc .vmem S256x8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x8x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x3x256x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1x8x256x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== Reference2Ideal.lean ====
abbrev S1x256x3 : Shape := ⟨3, ![1, 256, 3]⟩
abbrev S256x256 : Shape := ⟨2, ![256, 256]⟩
abbrev S256 : Shape := ⟨1, ![256]⟩
abbrev S128 : Shape := ⟨1, ![128]⟩
abbrev S1x3x256 : Shape := ⟨3, ![1, 3, 256]⟩
abbrev S256x3 : Shape := ⟨2, ![256, 3]⟩
abbrev S3x256 : Shape := ⟨2, ![3, 256]⟩
abbrev S1x256x256 : Shape := ⟨3, ![1, 256, 256]⟩
abbrev S_ : Shape := ⟨0, ![]⟩
abbrev S1x256 : Shape := ⟨2, ![1, 256]⟩
abbrev S1x256x1 : Shape := ⟨3, ![1, 256, 1]⟩
abbrev S1x1x256 : Shape := ⟨3, ![1, 1, 256]⟩
abbrev S1x256x4 : Shape := ⟨3, ![1, 256, 4]⟩
abbrev S1x256x3x1 : Shape := ⟨4, ![1, 256, 3, 1]⟩
abbrev S1x256x3x3 : Shape := ⟨4, ![1, 256, 3, 3]⟩
abbrev S1x256x1x3 : Shape := ⟨4, ![1, 256, 1, 3]⟩
abbrev S1x1x256x3 : Shape := ⟨4, ![1, 1, 256, 3]⟩
abbrev S1x256x256x3 : Shape := ⟨4, ![1, 256, 256, 3]⟩
abbrev S1x256x1x3x3 : Shape := ⟨5, ![1, 256, 1, 3, 3]⟩
abbrev S1x256x256x1x3 : Shape := ⟨5, ![1, 256, 256, 1, 3]⟩
abbrev S1x256x256x3x3 : Shape := ⟨5, ![1, 256, 256, 3, 3]⟩
abbrev S3x1x256x256x3 : Shape := ⟨5, ![3, 1, 256, 256, 3]⟩
abbrev S1x1x256x256x3 : Shape := ⟨5, ![1, 1, 256, 256, 3]⟩
abbrev S1x256x256x3x1 : Shape := ⟨5, ![1, 256, 256, 3, 1]⟩
abbrev S65536x1x1 : Shape := ⟨3, ![65536, 1, 1]⟩
abbrev S1x128x1 : Shape := ⟨3, ![1, 128, 1]⟩
abbrev S65536x128x1 : Shape := ⟨3, ![65536, 128, 1]⟩
abbrev S65536x128x2 : Shape := ⟨3, ![65536, 128, 2]⟩
abbrev S1x256x256x256 : Shape := ⟨4, ![1, 256, 256, 256]⟩
abbrev S1x1x1x256 : Shape := ⟨4, ![1, 1, 1, 256]⟩
abbrev S196608x1x1 : Shape := ⟨3, ![196608, 1, 1]⟩
abbrev S196608x128x1 : Shape := ⟨3, ![196608, 128, 1]⟩
abbrev S196608x128x2 : Shape := ⟨3, ![196608, 128, 2]⟩
abbrev S1x256x256x3x256 : Shape := ⟨5, ![1, 256, 256, 3, 256]⟩
abbrev S1x1x1x1x256 : Shape := ⟨5, ![1, 1, 1, 1, 256]⟩

abbrev nBuf : Space → Nat
  | .hbm => 130
  | .vmem => 0
  | .smem => 0
  | _ => 0

abbrev hbmTy0_0 (i : Nat) : BufTy := match i % 128 with
  | 0 => ⟨S1x256x3, .f32⟩
  | 1 => ⟨S256x256, .f32⟩
  | 2 => ⟨S256, .f32⟩
  | 3 => ⟨S256x256, .f32⟩
  | 4 => ⟨S256, .f32⟩
  | 5 => ⟨S128, .f32⟩
  | 6 => ⟨S128, .f32⟩
  | 7 => ⟨S1x3x256, .f32⟩
  | 8 => ⟨S256x3, .f32⟩
  | 9 => ⟨S3x256, .f32⟩
  | 10 => ⟨S256x256, .f32⟩
  | 11 => ⟨S1x256x256, .f32⟩
  | 12 => ⟨S1x256x3, .f32⟩
  | 13 => ⟨S_, .f32⟩
  | 14 => ⟨S1x256, .f32⟩
  | 15 => ⟨S1x256x1, .f32⟩
  | 16 => ⟨S1x256x3, .f32⟩
  | 17 => ⟨S_, .f32⟩
  | 18 => ⟨S1x256, .f32⟩
  | 19 => ⟨S1x1x256, .f32⟩
  | 20 => ⟨S_, .f32⟩
  | 21 => ⟨S1x256x256, .f32⟩
  | 22 => ⟨S1x256x256, .f32⟩
  | 23 => ⟨S1x256x256, .f32⟩
  | 24 => ⟨S1x256x256, .f32⟩
  | 25 => ⟨S1x256x256, .f32⟩
  | 26 => ⟨S1x256x256, .f32⟩
  | 27 => ⟨S_, .f32⟩
  | 28 => ⟨S1x256x256, .f32⟩
  | 29 => ⟨S1x256x256, .f32⟩
  | 30 => ⟨S1x256x256, .f32⟩
  | 31 => ⟨S_, .f32⟩
  | 32 => ⟨S1x256x256, .f32⟩
  | 33 => ⟨S1x256x256, .f32⟩
  | 34 => ⟨S1x256x256, .f32⟩
  | 35 => ⟨S1x256x4, .f32⟩
  | 36 => ⟨S1x256x4, .i32⟩
  | 37 => ⟨S1x256x3, .i32⟩
  | 38 => ⟨S_, .i32⟩
  | 39 => ⟨S1x256x3, .i32⟩
  | 40 => ⟨S1x256x3, .i1⟩
  | 41 => ⟨S_, .i32⟩
  | 42 => ⟨S1x256x3, .i32⟩
  | 43 => ⟨S1x256x3, .i32⟩
  | 44 => ⟨S1x256x3, .i32⟩
  | 45 => ⟨S1x256x3x1, .i32⟩
  | 46 => ⟨S1x256x3x3, .f32⟩
  | 47 => ⟨S1x256x1x3, .f32⟩
  | 48 => ⟨S1x256x3x3, .f32⟩
  | 49 => ⟨S1x256x3x3, .f32⟩
  | 50 => ⟨S1x1x256x3, .f32⟩
  | 51 => ⟨S1x256x1x3, .f32⟩
  | 52 => ⟨S1x256x256x3, .f32⟩
  | 53 => ⟨S1x256x256x3, .f32⟩
  | 54 => ⟨S1x256x256x3, .f32⟩
  | 55 => ⟨S1x256x1x3x3, .f32⟩
  | 56 => ⟨S1x256x256x1x3, .f32⟩
  | 57 => ⟨S1x256x256x3x3, .f32⟩
  | 58 => ⟨S1x256x256x3x3, .f32⟩
  | 59 => ⟨S3x1x256x256x3, .f32⟩
  | 60 => ⟨S3x1x256x256x3, .f32⟩
  | 61 => ⟨S1x1x256x256x3, .f32⟩
  | 62 => ⟨S1x256x256x3, .f32⟩
  | 63 => ⟨S1x1x256x256x3, .f32⟩
  | 64 => ⟨S1x256x256x3, .f32⟩
  | 65 => ⟨S1x1x256x256x3, .f32⟩
  | 66 => ⟨S1x256x256x3, .f32⟩
  | 67 => ⟨S1x1x256x256x3, .f32⟩
  | 68 => ⟨S1x256x256x3, .f32⟩
  | 69 => ⟨S1x1x256x256x3, .f32⟩
  | 70 => ⟨S1x256x256x3, .f32⟩
  | 71 => ⟨S1x1x256x256x3, .f32⟩
  | 72 => ⟨S1x256x256x3, .f32⟩
  | 73 => ⟨S1x256x256x3, .f32⟩
  | 74 => ⟨S1x256x256x3, .f32⟩
  | 75 => ⟨S1x256x256x3, .f32⟩
  | 76 => ⟨S1x256x256x3, .f32⟩
  | 77 => ⟨S1x256x256x3, .f32⟩
  | 78 => ⟨S1x256x256x3, .f32⟩
  | 79 => ⟨S1x256x256x3, .f32⟩
  | 80 => ⟨S1x256x256x3, .f32⟩
  | 81 => ⟨S1x256x256x3, .f32⟩
  | 82 => ⟨S1x256x256x3x1, .f32⟩
  | 83 => ⟨S1x256x256x3x1, .f32⟩
  | 84 => ⟨S1x256x256x3x1, .f32⟩
  | 85 => ⟨S1x256x256x3x3, .f32⟩
  | 86 => ⟨S1x256x256x3x3, .f32⟩
  | 87 => ⟨S_, .f32⟩
  | 88 => ⟨S1x256x256x3, .f32⟩
  | 89 => ⟨S1x256x256x3, .f32⟩
  | 90 => ⟨S1x256x256x3x3, .f32⟩
  | 91 => ⟨S1x256x256x3x3, .f32⟩
  | 92 => ⟨S1x256x256x3x3, .f32⟩
  | 93 => ⟨S_, .f32⟩
  | 94 => ⟨S1x256x256x3, .f32⟩
  | 95 => ⟨S1x256x256x3, .f32⟩
  | 96 => ⟨S_, .f32⟩
  | 97 => ⟨S1x256x256x3, .f32⟩
  | 98 => ⟨S1x256x256x3, .f32⟩
  | 99 => ⟨S65536x1x1, .f32⟩
  | 100 => ⟨S1x128x1, .f32⟩
  | 101 => ⟨S65536x128x1, .f32⟩
  | 102 => ⟨S65536x128x1, .f32⟩
  | 103 => ⟨S65536x128x1, .f32⟩
  | 104 => ⟨S65536x128x1, .f32⟩
  | 105 => ⟨S65536x128x1, .f32⟩
  | 106 => ⟨S65536x128x2, .f32⟩
  | 107 => ⟨S1x256x256x256, .f32⟩
  | 108 => ⟨S256x256, .f32⟩
  | 109 => ⟨S1x256x256x256, .f32⟩
  | 110 => ⟨S1x1x1x256, .f32⟩
  | 111 => ⟨S1x256x256x256, .f32⟩
  | 112 => ⟨S1x256x256x256, .f32⟩
  | 113 => ⟨S196608x1x1, .f32⟩
  | 114 => ⟨S1x128x1, .f32⟩
  | 115 => ⟨S196608x128x1, .f32⟩
  | 116 => ⟨S196608x128x1, .f32⟩
  | 117 => ⟨S196608x128x1, .f32⟩
  | 118 => ⟨S196608x128x1, .f32⟩
  | 119 => ⟨S196608x128x1, .f32⟩
  | 120 => ⟨S196608x128x2, .f32⟩
  | 121 => ⟨S1x256x256x3x256, .f32⟩
  | 122 => ⟨S256x256, .f32⟩
  | 123 => ⟨S1x256x256x3x256, .f32⟩
  | 124 => ⟨S1x1x1x1x256, .f32⟩
  | 125 => ⟨S1x256x256x3x256, .f32⟩
  | 126 => ⟨S1x256x256x3x256, .f32⟩
  | 127 => ⟨S_, .f32⟩
  | _ => ⟨S1x256x3, .f32⟩

abbrev hbmTy0_1 (i : Nat) : BufTy := match i % 128 with
  | 0 => ⟨S1x256x256x256, .f32⟩
  | 1 => ⟨S1x256x256x256, .f32⟩
  | _ => ⟨S1x256x3, .f32⟩

abbrev hbmTy (i : Nat) : BufTy := match i / 128 with
  | 0 => hbmTy0_0 i
  | 1 => hbmTy0_1 i
  | _ => ⟨S1x256x3, .f32⟩

abbrev bufTy : (tb : Table) → Fin (tcTables nBuf tb) → BufTy
  | .hbm, ⟨i, _⟩ => hbmTy i
  | _, _ => ⟨S1x256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_values : Ref sig .tc := ⟨.hbm, 35, rfl⟩
abbrev main_indices : Ref sig .tc := ⟨.hbm, 36, rfl⟩
abbrev main_v23 : Ref sig .tc := ⟨.hbm, 37, rfl⟩
abbrev main_c : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_7 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_8 : Ref sig .tc := ⟨.hbm, 93, rfl⟩
abbrev main_v76 : Ref sig .tc := ⟨.hbm, 94, rfl⟩
abbrev main_v77 : Ref sig .tc := ⟨.hbm, 95, rfl⟩
abbrev main_cst_9 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_cst_10 : Ref sig .tc := ⟨.hbm, 127, rfl⟩
abbrev main_v108 : Ref sig .tc := ⟨.hbm, 128, rfl⟩
abbrev main_v109 : Ref sig .tc := ⟨.hbm, 129, rfl⟩

abbrev nD : Nat := 1
abbrev τ : Topo := Topo.v7x

variable {F : FTy → Type} [FloatOps F]
-- ==== Proof.Nearest.lean ====
module

public import Idealize.ShloMosaic.Lib.SortFacts
public import Idealize.ShloMosaic.Lib.WordArith
public import Idealize.ShloMosaic.Lib.Pointwise
public import Mathlib.Data.EReal.Operations

@[expose] public section

noncomputable section

/-! # The greatest entries of a finite family, taken one at a time or off a stable sort -/

namespace Cert.Nearest

open Idealize.ShloMosaic

variable {n : ℕ}

/-- `s` is the first position of the greatest value of `g`. -/
def IsFirst (g : Fin n → EReal) (s : Fin n) : Prop := ∀ j, g j < g s ∨ (g j = g s ∧ s ≤ j)

/-- The greatest value's first position is unique. -/
theorem IsFirst.unique {g : Fin n → EReal} {s t : Fin n} (hs : IsFirst g s) (ht : IsFirst g t) : s = t := by
  rcases hs t with h | ⟨h, h'⟩ <;> rcases ht s with k | ⟨k, k'⟩
  · exact absurd k (not_lt.mpr h.le)
  · exact absurd h (by rw [k]; exact lt_irrefl _)
  · exact absurd k (by rw [h]; exact lt_irrefl _)
  · exact le_antisymm h' k'

/-- A non-empty family has a first position of its greatest value. -/
theorem exists_isFirst [NeZero n] (g : Fin n → EReal) : ∃ s, IsFirst g s := by
  classical
  obtain ⟨m, -, hm⟩ := Finset.exists_max_image Finset.univ g ⟨0, Finset.mem_univ _⟩
  obtain ⟨s, hs, hmin⟩ := Finset.exists_min_image (Finset.univ.filter fun j => g j = g m) id ⟨m, by simp⟩
  simp only [Finset.mem_filter, Finset.mem_univ, true_and, id] at hs hmin
  refine ⟨s, fun j => ?_⟩
  rcases (hm j (Finset.mem_univ j)).lt_or_eq with h | h
  · exact .inl (by rwa [hs])
  · exact .inr ⟨by rw [h, hs], hmin j h⟩

/-- The first position of the greatest value. -/
def first [NeZero n] (g : Fin n → EReal) : Fin n := (exists_isFirst g).choose

/-- … is one. -/
theorem isFirst_first [NeZero n] (g : Fin n → EReal) : IsFirst g (first g) := (exists_isFirst g).choose_spec

/-- The family with one entry taken out: overwritten by the least value. -/
def drop (g : Fin n → EReal) (s : Fin n) : Fin n → EReal := fun j => if j = s then ⊥ else g j

/-- What is left after `k` rounds of taking the greatest entry out. -/
def left [NeZero n] (g : Fin n → EReal) : ℕ → Fin n → EReal
  | 0 => g
  | k + 1 => drop (left g k) (first (left g k))

/-- The position that round `k` takes. -/
def nth [NeZero n] (g : Fin n → EReal) (k : ℕ) : Fin n := first (left g k)

/-! ## The stable sort takes the same positions -/

/-- A stable sort by a relation is the sort by any other that agrees with it on every pair whose first member comes later. -/
theorem stableSort_eq {ι : Type} (R L : ι → ι → Bool) (l : List ι) (hl : l.Pairwise fun a b => R b a = L b a) :
    stableSort R l = stableSort L l := by
  induction l with
  | nil => rfl
  | cons a l ih =>
    rw [List.pairwise_cons] at hl
    unfold stableSort
    rw [← ih hl.2]
    have hmem : ∀ b ∈ stableSort R l, R b a = L b a := fun b hb => hl.1 b ((perm_stableSort R l).mem_iff.mp hb)
    generalize stableSort R l = m at hmem
    induction m with
    | nil => rfl
    | cons b m ihm =>
      unfold insertBefore
      rw [hmem b (by simp), ihm fun c hc => hmem c (by simp [hc])]

/-- "Greater" as a test. -/
def gtB (g : Fin n → EReal) (a b : Fin n) : Bool := decide (g b < g a)

/-- "Greater, or equal and earlier" as a test. -/
def lexB (g : Fin n → EReal) (a b : Fin n) : Bool := decide (g b < g a ∨ (g b = g a ∧ a < b))

/-- Sorting stably by "greater" is sorting by "greater, or equal and earlier". -/
theorem sortedFrom_gt (g : Fin n → EReal) : sortedFrom (gtB g) = sortedFrom (lexB g) := by
  have h : sortPositions n (gtB g) = sortPositions n (lexB g) := by
    refine stableSort_eq _ _ _ ((List.pairwise_lt_finRange n).imp fun {a b} hab => ?_)
    simp only [gtB, lexB, decide_eq_decide]
    exact ⟨.inl, fun h => h.elim id fun h' => absurd hab (not_lt.mpr h'.2.le)⟩
  funext k
  exact List.get_of_eq h _

/-- In the sorted order an earlier position's value is greater, or equal with an earlier source. -/
theorem sortedFrom_lex (g : Fin n → EReal) (i j : Fin n) (hij : i < j) :
    g (sortedFrom (gtB g) j) < g (sortedFrom (gtB g) i)
      ∨ (g (sortedFrom (gtB g) j) = g (sortedFrom (gtB g) i) ∧ sortedFrom (gtB g) i ≤ sortedFrom (gtB g) j) := by
  have h := sortedFrom_noInversion (lexB g) (lexB g) ?_ (fun _ _ h => h) ?_ i j hij
  · rw [← sortedFrom_gt] at h
    simp only [lexB, decide_eq_false_iff_not, not_or, not_and, not_lt] at h
    rcases h.1.lt_or_eq with h' | h'
    · exact .inl h'
    · exact .inr ⟨h', h.2 h'.symm⟩
  · intro a b h
    simp only [lexB, decide_eq_true_eq, decide_eq_false_iff_not, not_or, not_and, not_lt] at h ⊢
    rcases h with h | ⟨h, h'⟩
    · exact ⟨h.le, fun e => absurd h (by rw [e]; exact lt_irrefl _)⟩
    · exact ⟨h.le, fun _ => h'.le⟩
  · intro a b c hab hbc
    simp only [lexB, decide_eq_false_iff_not, not_or, not_and, not_lt] at hab hbc ⊢
    refine ⟨hab.1.trans hbc.1, fun e => ?_⟩
    have e1 : g b = g a := le_antisymm (e ▸ hbc.1) hab.1
    exact (hbc.2 (e.trans e1.symm)).trans (hab.2 e1)

/-- Round `k` takes the source of sorted position `k`, where no value is the least one. -/
theorem nth_eq_sortedFrom [NeZero n] (g : Fin n → EReal) (hg : ∀ j, g j ≠ ⊥) (k : ℕ) (hk : k < n) :
    nth g k = sortedFrom (gtB g) ⟨k, hk⟩ := by
  have hstep : ∀ (h : Fin n → EReal) (k : ℕ) (hk : k < n),
      (∀ i, h (sortedFrom (gtB g) i) = if (i : ℕ) < k then ⊥ else g (sortedFrom (gtB g) i)) →
        IsFirst h (sortedFrom (gtB g) ⟨k, hk⟩) := by
    intro h k hk hh j
    obtain ⟨i, rfl⟩ := sortedFrom_surjective (gtB g) j
    rw [hh, hh, if_neg (lt_irrefl k)]
    rcases lt_trichotomy (i : ℕ) k with hi | hi | hi
    · rw [if_pos hi]; exact .inl (bot_lt_iff_ne_bot.mpr (hg _))
    · obtain rfl : i = ⟨k, hk⟩ := Fin.ext hi
      exact .inr ⟨if_neg (lt_irrefl k), le_rfl⟩
    · rw [if_neg (by omega)]; exact sortedFrom_lex g _ _ hi
  have hall : ∀ k, k ≤ n → ∀ i, left g k (sortedFrom (gtB g) i) = if (i : ℕ) < k then ⊥ else g (sortedFrom (gtB g) i) := by
    intro k
    induction k with
    | zero => intro _ i; rfl
    | succ k ih =>
      intro hk i
      have hf : first (left g k) = sortedFrom (gtB g) ⟨k, hk⟩ :=
        (isFirst_first _).unique (hstep _ k hk (ih (by omega)))
      show drop (left g k) (first (left g k)) _ = _
      rw [hf]
      unfold drop
      rw [ih (by omega)]
      by_cases hi : i = ⟨k, hk⟩
      · rw [if_pos (by rw [hi]), if_pos (by rw [hi]; exact Nat.lt_succ_self k)]
      · rw [if_neg (fun e => hi (sortedFrom_injective _ e))]
        have hne : (i : ℕ) ≠ k := fun e => hi (Fin.ext e)
        by_cases h : (i : ℕ) < k
        · rw [if_pos h, if_pos (by omega)]
        · rw [if_neg h, if_neg (by omega)]
  exact (isFirst_first _).unique (hstep _ k hk (hall k hk.le))

/-! ## The first position as a least word -/

/-- The least of the words of the positions with a property, 256 standing for the others, is the first such position's. -/
theorem fold_minsi (P : Fin 256 → Prop) [DecidablePred P] (s : Fin 256) (hs : P s) (hmin : ∀ j, P j → s ≤ j) :
    Finset.fold IntOp.minsi 2147483647#32 (fun x => if P x then BitVec.ofNat 32 x.val else 256#32) Finset.univ
      = BitVec.ofNat 32 s.val := by
  have hv : ∀ x, (if P x then BitVec.ofNat 32 x.val else 256#32).toNat = if P x then x.val else 256 := by
    intro x
    split
    · rw [BitVec.toNat_ofNat]; exact Nat.mod_eq_of_lt (by omega)
    · rfl
  have hfold : ∀ S : Finset (Fin 256),
      (Finset.fold IntOp.minsi 2147483647#32 (fun x => if P x then BitVec.ofNat 32 x.val else 256#32) S).toNat
        = S.fold min 2147483647 fun x => if P x then x.val else 256 := by
    intro S
    induction S using Finset.induction_on with
    | empty => rfl
    | insert a S ha ih =>
      have hb : (S.fold min 2147483647 fun x => if P x then x.val else 256) ≤ 2147483647 :=
        (Finset.fold_min_le _).mpr (.inl le_rfl)
      have h1 : (if P a then a.val else 256) < 2 ^ 31 := by split <;> omega
      rw [Finset.fold_insert ha, Finset.fold_insert ha, WordArith.toNat_minsi_of_lt _ _ (by rw [hv]; exact h1)
        (by rw [ih]; omega), hv, ih]
  apply BitVec.eq_of_toNat_eq
  rw [hfold, BitVec.toNat_ofNat, Nat.mod_eq_of_lt (by omega)]
  apply le_antisymm
  · exact (Finset.fold_min_le _).mpr (.inr ⟨s, Finset.mem_univ _, by rw [if_pos hs]⟩)
  · refine (Finset.le_fold_min _).mpr ⟨by omega, fun x _ => ?_⟩
    split
    · rename_i h; exact hmin x h
    · omega

end Cert.Nearest

end
-- ==== Proof.Near.lean ====
module

public import proofs.«01_k».proof.Proof.Gen.KernelIdeal.Frame
public import Idealize.ShloMosaic.Lib.Pipeline.ValueKit
public import Idealize.ShloMosaic.Lib.Pointwise
public import proofs.«01_k».proof.Proof.Nearest

@[expose] public section

set_option maxRecDepth 16384

noncomputable section

/-! # The arrays of the first call: the distances, and the rounds that pick each point's nearest points -/

namespace Cert.Near

open Idealize.ShloMosaic Idealize.ShloMosaic.TcCoe Cert.KernelIdeal Cert.KernelIdeal.Gen Cert.Nearest

/-- The negation, as a difference from zero. -/
def negV (x : FVec Ideal S256x256 .f32) : FVec Ideal S256x256 .f32 :=
  subf (broadcast S256x256 (Scalar.ofBits .f32 0x00000000#32)) x

/-- Each row's first position of its greatest entry, as a word. -/
def firstV (g : FVec Ideal S256x256 .f32) : IVec S256x1 32 :=
  shapeCast S256x1 (multiReductionI .minsi [1] S256 (select (cmpf .oeq g (broadcastTo S256x256 (shapeCast S256x1
    (multiReduction .maximumf [1] S256 g 0xFF800000#32 reduces_S256x256_S256 (.inl rfl) rfl) shapeCasts_S256_S256x1)
      broadcasts_S256x1_S256x256)) (iota .tc S256x256 32 [1] iota_S256x256_d1_w32) (broadcast S256x256 256#32))
    2147483647#32 reduces_S256x256_S256 rfl) shapeCasts_S256_S256x1

/-- The rows with one entry each overwritten by the least value. -/
def dropV (g : FVec Ideal S256x256 .f32) (s : IVec S256x1 32) : FVec Ideal S256x256 .f32 :=
  select (cmpi .eq (iota .tc S256x256 32 [1] iota_S256x256_d1_w32) (broadcastTo S256x256 s broadcasts_S256x1_S256x256))
    (broadcast S256x256 (Scalar.ofBits .f32 0xFF800000#32)) g

/-- One at each row's position, zero elsewhere. -/
def hotV (s : IVec S256x1 32) : FVec Ideal S256x256 .f32 :=
  sitofp .f32 (extui 32 (cmpi .eq (iota .tc S256x256 32 [1] iota_S256x256_d1_w32)
    (broadcastTo S256x256 s broadcasts_S256x1_S256x256)) natLt_1_32)

/-- What is left of the rows after `k` rounds. -/
def leftV (g : FVec Ideal S256x256 .f32) : ℕ → FVec Ideal S256x256 .f32
  | 0 => g
  | k + 1 => dropV (leftV g k) (firstV (leftV g k))

/-- The word of the least value. -/
theorem ofBits_least : Ideal.ofBits .f32 0xFF800000#32 = ⊥ := by
  simp [Ideal.ofBits, Ideal.ieee]

/-- The distances at an index. -/
theorem distV_at (x : FVec Ideal S256x8 .f32) (i j : Fin 256) :
    k0_pay2 (F := Ideal) x (ix2 i j) = Ideal.sqrt (max ((∑ c, x (ix2 i c) * x (ix2 i c)
      - Ideal.ofBits .f32 0x40000000#32 * ∑ c, x (ix2 i c) * x (ix2 j c)) + ∑ c, x (ix2 j c) * x (ix2 j c)) 0) := by
  pointwise [k0_pay2]

/-- The negation at an index. -/
theorem negV_at (x : FVec Ideal S256x256 .f32) (i j : Fin 256) : negV x (ix2 i j) = -x (ix2 i j) := by
  pointwise [negV]
  exact zero_sub _

/-- Words of positions are equal where the positions are. -/
theorem word_eq (j p : Fin 256) : BitVec.ofNat 32 j.val = BitVec.ofNat 32 p.val ↔ j = p := by
  refine ⟨fun h => Fin.ext ?_, fun h => by rw [h]⟩
  have h' := congrArg BitVec.toNat h
  rw [BitVec.toNat_ofNat, BitVec.toNat_ofNat, Nat.mod_eq_of_lt (by omega), Nat.mod_eq_of_lt (by omega)] at h'
  exact h'

/-- Each row's first position at an index. -/
theorem firstV_at (g : FVec Ideal S256x256 .f32) (i : Fin 256) :
    firstV g (ix2 i 0) = BitVec.ofNat 32 (first fun j => g (ix2 i j)).val := by
  pointwise [firstV]
  have hf := isFirst_first fun j : Fin 256 => (g (ix2 i j) : EReal)
  generalize hs : (first fun j : Fin 256 => (g (ix2 i j) : EReal)) = s at hf
  have hle : ∀ j : Fin 256, (g (ix2 i j) : EReal) ≤ g (ix2 i s) := fun j => (hf j).elim le_of_lt fun h => h.1.le
  have hmax : Finset.fold max (Ideal.ofBits .f32 0xFF800000#32) (fun x : Fin 256 => (g (ix2 i x) : EReal)) Finset.univ = g (ix2 i s) := by
    rw [ofBits_least]
    apply le_antisymm
    · exact (Finset.fold_max_le _).mpr ⟨bot_le, fun x _ => hle x⟩
    · exact (Finset.le_fold_max _).mpr (.inr ⟨s, Finset.mem_univ _, le_rfl⟩)
  rw [hmax]
  refine fold_minsi (fun x : Fin 256 => (g (ix2 i x) : EReal) = g (ix2 i s)) s rfl fun j hj => ?_
  rcases hf j with h | h
  · exact absurd hj h.ne
  · exact h.2

/-- The rows with one entry each overwritten, at an index. -/
theorem dropV_at (g : FVec Ideal S256x256 .f32) (s : IVec S256x1 32) (i j p : Fin 256) (hs : s (ix2 i 0) = BitVec.ofNat 32 p.val) :
    dropV g s (ix2 i j) = drop (fun j => g (ix2 i j)) p j := by
  pointwise [dropV]
  rw [hs, ofBits_least]
  unfold drop
  by_cases h : j = p
  · rw [if_pos h, h]; simp [IntOp.cmpi, Scalar.select]
  · have h' : (BitVec.ofNat 32 j.val == BitVec.ofNat 32 p.val) = false := beq_false_of_ne fun e => h ((word_eq j p).mp e)
    rw [if_neg h]; simp [IntOp.cmpi, Scalar.select, h']

/-- The one-hot rows at an index. -/
theorem hotV_at (s : IVec S256x1 32) (i j p : Fin 256) (hs : s (ix2 i 0) = BitVec.ofNat 32 p.val) :
    hotV s (ix2 i j) = if j = p then 1 else 0 := by
  pointwise [hotV]
  rw [hs]
  by_cases h : j = p
  · rw [if_pos h, h, show IntOp.cmpi .eq (BitVec.ofNat 32 p.val) (BitVec.ofNat 32 p.val) = 1#1 by simp [IntOp.cmpi]]
    show (((1#32 : BitVec 32).toInt : ℝ) : EReal) = 1
    simp
  · have h' : (BitVec.ofNat 32 j.val == BitVec.ofNat 32 p.val) = false := beq_false_of_ne fun e => h ((word_eq j p).mp e)
    rw [if_neg h, show IntOp.cmpi .eq (BitVec.ofNat 32 j.val) (BitVec.ofNat 32 p.val) = 0#1 by simp [IntOp.cmpi, h']]
    show (((0#32 : BitVec 32).toInt : ℝ) : EReal) = 0
    simp

/-- What is left after `k` rounds, at an index. -/
theorem leftV_at (g : FVec Ideal S256x256 .f32) (k : ℕ) (i : Fin 256) :
    (fun j => leftV g k (ix2 i j)) = left (fun j => g (ix2 i j)) k := by
  induction k with
  | zero => rfl
  | succ k ih =>
    funext j
    show dropV (leftV g k) (firstV (leftV g k)) (ix2 i j) = drop _ _ j
    rw [dropV_at _ _ i j _ (firstV_at _ i), ih]

/-- Round `k`'s one-hot rows at an index. -/
theorem hot_left (g : FVec Ideal S256x256 .f32) (k : ℕ) (i j : Fin 256) :
    hotV (firstV (leftV g k)) (ix2 i j) = if j = nth (fun j => g (ix2 i j)) k then 1 else 0 := by
  rw [hotV_at _ i j _ (firstV_at _ i), leftV_at]
  rfl

end Cert.Near

end
-- ==== Proof.Call1.lean ====
module

public import proofs.«01_k».proof.Proof.Near

@[expose] public section

set_option maxRecDepth 16384

noncomputable section

/-! # What the first call leaves: the distances, and three one-hot rows per point -/

namespace Cert.Call1

open Idealize.ShloMosaic Idealize.ShloMosaic.TcCoe Cert.KernelIdeal Cert.KernelIdeal.Gen Cert.Nearest Cert.Near

/-- One round's one-hot rows, as the kernel stores them. -/
def storedV (x : FVec Ideal S256x8 .f32) (k : ℕ) : FVec Ideal S1x256x256 .f32 :=
  shapeCast S1x256x256 (hotV (firstV (leftV (negV (k0_pay2 x)) k))) shapeCasts_S256x256_S1x256x256

/-- One round's one-hot rows at an index: one at the round's pick. -/
theorem storedV_at (x : FVec Ideal S256x8 .f32) (k : ℕ) (b : Fin 1) (i j : Fin 256) :
    storedV x k (ix3 b i j) = if j = nth (fun j => -k0_pay2 (F := Ideal) x (ix2 i j)) k then 1 else 0 := by
  have h := hot_left (negV (k0_pay2 x)) k i j
  simp only [negV_at] at h
  unfold storedV
  generalize hotV (firstV (leftV (negV (k0_pay2 x)) k)) = v at h ⊢
  pointwise
  exact h

/-- The position of each entry in its row. -/
abbrev posV : IVec S256x256 32 := iota .tc S256x256 32 [1] iota_S256x256_d1_w32

/-- The kernel's stages, as rounds: what is left after the first one, and its successor's picks. -/
theorem stage_one (x : FVec Ideal S256x8 .f32) : k0_pay3 (F := Ideal) x = leftV (negV (k0_pay2 x)) 1 := rfl

/-- The picks of the second round. -/
theorem stage_pick (x : FVec Ideal S256x8 .f32) : k0_pay4 (F := Ideal) x = firstV (k0_pay3 x) := rfl

/-- The stored rows of a round, from its picks. -/
theorem stage_hot (s : IVec S256x1 32) :
    k0_pay5 (F := Ideal) posV s = shapeCast S1x256x256 (hotV s) shapeCasts_S256x256_S1x256x256 := rfl

/-- The stored rows of the next round. -/
theorem stage_next (g : FVec Ideal S256x256 .f32) (s : IVec S256x1 32) :
    k0_pay8 (F := Ideal) posV g s = shapeCast S1x256x256 (hotV (firstV (dropV g s))) shapeCasts_S256x256_S1x256x256 := rfl

/-- The stored rows of the round after that. -/
theorem stage_last (g : FVec Ideal S256x256 .f32) (s : IVec S256x1 32) :
    k0_pay1 (k0_pay9 (F := Ideal) posV g s) = shapeCast S1x256x256
      (hotV (firstV (dropV (dropV g s) (firstV (dropV g s))))) shapeCasts_S256x256_S1x256x256 := rfl

variable (V : (c : Dev nD) → (b : Ref sig .tc) → Buf (Elt Ideal) ((c : Thread nD τ).loc b))

/-- The call's only grid point reads block zero. -/
theorem idx : ∀ t : Fin cfg0.N, win0_0.index t = ![0, 0] := (by decide +kernel : ∀ t : Fin grid0.N, _)

/-- The call reads its whole operand. -/
theorem operand (c : Dev nD) (t : Fin cfg0.N) : (iblk0 V c 0 t : FVec Ideal S256x8 .f32) = V c main_v3 := by
  funext y
  blk_ext [iblk0, idx t]

/-- The first result of the call is the array of distances. -/
theorem dist_arr (c : Dev nD) (i j : Fin 256) :
    (dat0 V c).arrAt 1 cfg0.N (ix2 i j) = k0_pay2 (F := Ideal) (V c main_v3) (ix2 i j) := by
  suffices h : (dat0 V c).arrAt 1 cfg0.N = k0_pay2 (F := Ideal) (V c main_v3) from congrFun h _
  refine (dat0 V c).arrAt_eq_of_after_last 1 t0_0 (by decide +kernel) _ fun y => ?_
  blk_simp
  rw [after0_1]
  frame_out
  rw [operand]

/-- The second result of the call is the three rounds' one-hot rows. -/
theorem hot_arr (c : Dev nD) (k : Fin 3) (i j : Fin 256) :
    @Eq EReal ((dat0 V c).arrAt 2 cfg0.N (ix3 k i j))
      (if j = nth (fun j => -k0_pay2 (F := Ideal) (V c main_v3) (ix2 i j)) (k.val + 1) then 1 else 0) := by
  suffices h : (dat0 V c).arrAt 2 cfg0.N
      = fun y : S3x256x256.Idx => storedV (V c main_v3) ((y 0).val + 1) (ix3 0 (y 1) (y 2)) from
    (congrFun h _).trans (storedV_at _ _ _ _ _)
  refine (dat0 V c).arrAt_eq_of_after_last 2 t0_0 (by decide +kernel) _ fun y => ?_
  blk_simp
  rw [after0_2]
  frame_out
  rw [operand]
  generalize V c main_v3 = v
  have e10 : k0_pay10 (F := Ideal) v = posV := rfl
  have e11 : k0_pay11 (F := Ideal) v = k0_pay3 v := by unfold k0_pay11; frame_out
  have e12 : k0_pay12 (F := Ideal) v = firstV (k0_pay3 v) := by unfold k0_pay12; frame_out; exact stage_pick v
  rw [e10, e11, e12, stage_hot, stage_next, stage_last, stage_one]
  have piece (k : ℕ) (x : S1x256x256.Idx) (h0 : (y 0 : ℕ) = k + (x 0 : ℕ)) (h1 : (y 1 : ℕ) = x 1) (h2 : (y 2 : ℕ) = x 2) :
      storedV v (k + 1) x = storedV v ((y 0).val + 1) (ix3 0 (y 1) (y 2)) := by
    idx_vars x
    obtain rfl : x0 = 0 := Subsingleton.elim _ _
    obtain rfl : y 1 = x1 := Fin.ext h1
    obtain rfl : y 2 = x2 := Fin.ext h2
    rw [h0]
    rfl
  canon_tiles x h
  · exact piece 2 x h0 h1 h2
  · exact piece 1 x h0 h1 h2
  · exact piece 0 x (h0.trans (Nat.zero_add _).symm) h1 h2

end Cert.Call1

end
-- ==== Proof.Maths.lean ====
module

public import Idealize.ShloMosaic.Lib.Pipeline.ValueKit
public import Idealize.ShloMosaic.Lib.Pointwise

@[expose] public section

noncomputable section

/-! # The scalar functions both programs are made of, over the extended reals -/

namespace Cert.Maths

open Idealize.ShloMosaic

/-- The number of quarter turns nearest to the phase `u`. -/
def turns (u : EReal) : EReal := Ideal.liftRound Ideal.roundHalfEven (u * Ideal.ofBits .f32 0x3F22F983#32)

/-- The number of quarter turns as a word. -/
def quarter (u : EReal) : BitVec 32 := FloatOps.fptosi (F := Ideal) (φ := .f32) 32 (turns u)

/-- What is left of the phase `u` after its quarter turns. -/
def remd (u : EReal) : EReal := u - turns u * Ideal.ofBits .f32 0x3FC90FDB#32

/-- The sine polynomial. -/
def sinP (r : EReal) : EReal :=
  r + r * (r * r) * (Ideal.ofBits .f32 0xBE2AAAA3#32
    + r * r * (Ideal.ofBits .f32 0x3C08839E#32 + r * r * Ideal.ofBits .f32 0xB94CA1F9#32))

/-- The cosine polynomial. -/
def cosP (r : EReal) : EReal :=
  1 + r * r * (Ideal.ofBits .f32 0xBF000000#32 + r * r * (Ideal.ofBits .f32 0x3D2AAAA5#32
    + r * r * (Ideal.ofBits .f32 0xBAB6061A#32 + r * r * Ideal.ofBits .f32 0x37CCF5CE#32)))

/-- One of four values, by a word modulo four. -/
def byQuarter (q : BitVec 32) (a0 a1 a2 a3 : EReal) : EReal :=
  Scalar.select (IntOp.cmpi .eq (IntOp.andi q 3#32) 0#32) a0 (Scalar.select (IntOp.cmpi .eq (IntOp.andi q 3#32) 1#32) a1
    (Scalar.select (IntOp.cmpi .eq (IntOp.andi q 3#32) 2#32) a2 a3))

/-- The sine of a phase: that of its remainder, turned by its quarter turns. -/
def sine (u : EReal) : EReal :=
  byQuarter (quarter u) (sinP (remd u)) (cosP (remd u)) (-sinP (remd u)) (-cosP (remd u))

/-- The cosine of a phase: that of its remainder, turned by its quarter turns. -/
def cosine (u : EReal) : EReal :=
  byQuarter (quarter u) (cosP (remd u)) (-sinP (remd u)) (-cosP (remd u)) (sinP (remd u))

/-- A word's two lowest bits are its remainder modulo four. -/
theorem and_three (q : BitVec 32) : (q &&& 3#32).toNat = q.toNat % 4 := by
  rw [BitVec.toNat_and]; exact Nat.and_two_pow_sub_one_eq_mod q.toNat 2

/-- There are four values of a word's two lowest bits. -/
theorem four_cases (q : BitVec 32) : q &&& 3#32 = 0#32 ∨ q &&& 3#32 = 1#32 ∨ q &&& 3#32 = 2#32 ∨ q &&& 3#32 = 3#32 := by
  have h := and_three q
  have h4 : q.toNat % 4 < 4 := Nat.mod_lt _ (by decide)
  generalize q &&& 3#32 = m at *
  have hm : m = BitVec.ofNat 32 m.toNat := by simp
  have h5 : m.toNat < 4 := by omega
  rcases (by omega : m.toNat = 0 ∨ m.toNat = 1 ∨ m.toNat = 2 ∨ m.toNat = 3) with e | e | e | e <;> rw [e] at hm <;> simp [hm]

/-- The lowest bit is a bit of the two lowest. -/
theorem one_of_three (q : BitVec 32) : q &&& 1#32 = (q &&& 3#32) &&& 1#32 := by rw [BitVec.and_assoc]; rfl
/-- The second bit is a bit of the two lowest. -/

theorem two_of_three (q : BitVec 32) : q &&& 2#32 = (q &&& 3#32) &&& 2#32 := by rw [BitVec.and_assoc]; rfl
/-- The two lowest bits of the next word depend on the two lowest bits alone. -/
theorem succ_three (q : BitVec 32) : (q + 1#32) &&& 3#32 = ((q &&& 3#32) + 1#32) &&& 3#32 := by
  apply BitVec.eq_of_toNat_eq
  rw [and_three, and_three, BitVec.toNat_add, BitVec.toNat_add, and_three]
  simp only [BitVec.toNat_ofNat]
  omega

/-- Choosing by the parity of a word, then the sign by its second bit, is choosing by the word modulo four. -/
theorem byQuarter_sin (q : BitVec 32) (s c : EReal) :
    Scalar.select (IntOp.cmpi .eq (IntOp.andi q 2#32) 2#32)
      (0 - Scalar.select (IntOp.cmpi .eq (IntOp.andi q 1#32) 1#32) c s)
      (Scalar.select (IntOp.cmpi .eq (IntOp.andi q 1#32) 1#32) c s) = byQuarter q s c (-s) (-c) := by
  simp only [byQuarter, IntOp.andi, zero_sub]
  rw [one_of_three q, two_of_three q]
  rcases four_cases q with h | h | h | h <;> rw [h] <;> rfl

/-- The same for the cosine, whose sign is the second bit of the next word. -/
theorem byQuarter_cos (q : BitVec 32) (s c : EReal) :
    Scalar.select (IntOp.cmpi .eq (IntOp.andi (IntOp.addi q 1#32) 2#32) 2#32)
      (0 - Scalar.select (IntOp.cmpi .eq (IntOp.andi q 1#32) 1#32) s c)
      (Scalar.select (IntOp.cmpi .eq (IntOp.andi q 1#32) 1#32) s c) = byQuarter q c (-s) (-c) s := by
  simp only [byQuarter, IntOp.andi, IntOp.addi, zero_sub]
  rw [one_of_three q, two_of_three (q + 1#32), succ_three]
  rcases four_cases q with h | h | h | h <;> rw [h] <;> rfl

/-- One index's sinusoidal embedding, projected on one output column: sines against `ws`, cosines against `wc`. -/
def emb (S C : EReal → EReal) (div : Fin 128 → EReal) (x : EReal) (ws wc : Fin 128 → EReal) : EReal :=
  ∑ f, S (div f * x) * ws f + ∑ f, C (div f * x) * wc f

/-- One index's share of the result at one output column, from the point of view of its block: the distance index `d`, the
    three angle indices `a0 a1 a2`, with `S` and `C` for sine and cosine. -/
def cell (S C : EReal → EReal) (div : Fin 128 → EReal) (bd ba : EReal) (wds wdc was wac : Fin 128 → EReal) (d a0 a1 a2 : EReal) :
    EReal :=
  (emb S C div d wds wdc + bd) + (max (max (emb S C div a0 was wac) (emb S C div a1 was wac)) (emb S C div a2 was wac) + ba)

/-- The angle index of a relative vector `r` against a relative vector `a`. -/
def angle (r a : Fin 3 → EReal) : EReal :=
  Ideal.atan2 (Ideal.sqrt ((r 1 * a 2 - r 2 * a 1) * (r 1 * a 2 - r 2 * a 1) + (r 2 * a 0 - r 0 * a 2) * (r 2 * a 0 - r 0 * a 2)
      + (r 0 * a 1 - r 1 * a 0) * (r 0 * a 1 - r 1 * a 0)))
    (r 0 * a 0 + r 1 * a 1 + r 2 * a 2) * Ideal.ofBits .f32 0x40747645#32

end Cert.Maths

end
-- ==== Proof.Emb.lean ====
module

public import proofs.«01_k».proof.Proof.Gen.KernelIdeal.Frame
public import Idealize.ShloMosaic.Lib.Pipeline.ValueKit
public import Idealize.ShloMosaic.Lib.Pointwise
public import proofs.«01_k».proof.Proof.Maths

@[expose] public section

set_option maxRecDepth 16384

noncomputable section

namespace Cert.Emb

open Idealize.ShloMosaic Idealize.ShloMosaic.TcCoe Cert.KernelIdeal Cert.KernelIdeal.Gen Cert.Maths

/-! ## The arrays of the second call, as functions of whole arrays -/

/-- The number of quarter turns nearest to each phase. -/
def turnsV (u : FVec Ideal S128x256 .f32) : FVec Ideal S128x256 .f32 :=
  roundeven (mulf u (broadcast S128x256 (Scalar.ofBits .f32 0x3F22F983#32)))

/-- What is left of each phase after its quarter turns. -/
def remV (u : FVec Ideal S128x256 .f32) : FVec Ideal S128x256 .f32 :=
  subf u (mulf (turnsV u) (broadcast S128x256 (Scalar.ofBits .f32 0x3FC90FDB#32)))

/-- The sine polynomial, at a remainder and its square. -/
def sinPV (r r2 : FVec Ideal S128x256 .f32) : FVec Ideal S128x256 .f32 :=
  addf r (mulf (mulf r r2) (addf (broadcast S128x256 (Scalar.ofBits .f32 0xBE2AAAA3#32))
    (mulf r2 (addf (broadcast S128x256 (Scalar.ofBits .f32 0x3C08839E#32))
      (mulf r2 (broadcast S128x256 (Scalar.ofBits .f32 0xB94CA1F9#32)))))))

/-- The cosine polynomial, at the square of a remainder. -/
def cosPV (r2 : FVec Ideal S128x256 .f32) : FVec Ideal S128x256 .f32 :=
  addf (broadcast S128x256 (Scalar.ofBits .f32 0x3F800000#32))
    (mulf r2 (addf (broadcast S128x256 (Scalar.ofBits .f32 0xBF000000#32))
      (mulf r2 (addf (broadcast S128x256 (Scalar.ofBits .f32 0x3D2AAAA5#32))
        (mulf r2 (addf (broadcast S128x256 (Scalar.ofBits .f32 0xBAB6061A#32))
          (mulf r2 (broadcast S128x256 (Scalar.ofBits .f32 0x37CCF5CE#32)))))))))

/-- The phases whose number of quarter turns is odd. -/
def oddV (q : IVec S128x256 32) : IVec S128x256 1 :=
  cmpi .eq (andi q (broadcast S128x256 1#32)) (broadcast S128x256 1#32)

/-- The phases whose number of quarter turns has its second bit set. -/
def twoV (q : IVec S128x256 32) : IVec S128x256 1 :=
  cmpi .eq (andi q (broadcast S128x256 2#32)) (broadcast S128x256 2#32)

/-- The negation, as a difference from zero. -/
def negV (x : FVec Ideal S128x256 .f32) : FVec Ideal S128x256 .f32 :=
  subf (broadcast S128x256 (Scalar.ofBits .f32 0x00000000#32)) x

/-- The kernel's sine of each phase. -/
def sinV (u : FVec Ideal S128x256 .f32) : FVec Ideal S128x256 .f32 :=
  select (twoV (fptosi 32 (turnsV u)))
    (negV (select (oddV (fptosi 32 (turnsV u))) (cosPV (mulf (remV u) (remV u))) (sinPV (remV u) (mulf (remV u) (remV u)))))
    (select (oddV (fptosi 32 (turnsV u))) (cosPV (mulf (remV u) (remV u))) (sinPV (remV u) (mulf (remV u) (remV u))))

/-- The kernel's cosine of each phase. -/
def cosV (u : FVec Ideal S128x256 .f32) : FVec Ideal S128x256 .f32 :=
  select (twoV (addi (fptosi 32 (turnsV u)) (broadcast S128x256 1#32)))
    (negV (select (oddV (fptosi 32 (turnsV u))) (sinPV (remV u) (mulf (remV u) (remV u))) (cosPV (mulf (remV u) (remV u)))))
    (select (oddV (fptosi 32 (turnsV u))) (sinPV (remV u) (mulf (remV u) (remV u))) (cosPV (mulf (remV u) (remV u))))

/-- One row's phases: each frequency times each index of the row. -/
def phaseV (div : FVec Ideal S128x1 .f32) (row : FVec Ideal S1x256 .f32) : FVec Ideal S128x256 .f32 :=
  mulf (broadcastTo S128x256 div broadcasts_S128x1_S128x256) (broadcastTo S128x256 row broadcasts_S1x256_S128x256)

/-- One row's embedding, projected by the even and the odd columns of a weight. -/
def embV (div : FVec Ideal S128x1 .f32) (row : FVec Ideal S1x256 .f32) (ws wc : FVec Ideal S256x128 .f32) :
    FVec Ideal S256x256 .f32 :=
  addf (matmul dot_S128x256_S256x128_S256x256_0_1_1_0_n_n none (sinV (phaseV div row))
      (shapeCast S256x128 ws shapeCasts_S256x128_S256x128) (constant S256x256 .f32 0x00000000#32))
    (matmul dot_S128x256_S256x128_S256x256_0_1_1_0_n_n none (cosV (phaseV div row))
      (shapeCast S256x128 wc shapeCasts_S256x128_S256x128) (constant S256x256 .f32 0x00000000#32))

/-- One row of the result: the distance embedding plus the greatest of the three angle embeddings, with both biases. -/
def rowV (div : FVec Ideal S128x1 .f32) (bd ba : FVec Ideal S1x256 .f32) (wds wdc was wac : FVec Ideal S256x128 .f32)
    (d a0 a1 a2 : FVec Ideal S1x256 .f32) : FVec Ideal S1x1x256x256 .f32 :=
  shapeCast S1x1x256x256
    (addf (addf (embV div d wds wdc) (broadcastTo S256x256 bd broadcasts_S1x256_S256x256))
      (addf (maximumf (maximumf (embV div a0 was wac) (embV div a1 was wac)) (embV div a2 was wac))
        (broadcastTo S256x256 ba broadcasts_S1x256_S256x256)))
    shapeCasts_S256x256_S1x1x256x256

/-- A neighbour's coordinate relative to the row's own point, for the eight rows of a block. -/
def relV (mask : FVec Ideal S8x256 .f32) (crow : FVec Ideal S1x256 .f32) (pic : FVec Ideal S8x1 .f32) : FVec Ideal S8x1 .f32 :=
  subf (shapeCast S8x1 (multiReduction .add [1] S8 (mulf mask (broadcastTo S8x256 crow broadcasts_S1x256_S8x256))
    0x00000000#32 reduces_S8x256_S8 (.inl rfl) rfl) shapeCasts_S8_S8x1) pic

/-- The angle indices of one neighbour, from its relative coordinates `r` and the points' relative coordinates `a`. -/
def angV (r0 r1 r2 : FVec Ideal S8x1 .f32) (a0 a1 a2 : FVec Ideal S8x256 .f32) : FVec Ideal S8x256 .f32 :=
  let b (x : FVec Ideal S8x1 .f32) : FVec Ideal S8x256 .f32 := broadcastTo S8x256 x broadcasts_S8x1_S8x256
  let c1 : FVec Ideal S8x256 .f32 := subf (mulf (b r1) a2) (mulf (b r2) a1)
  let c2 : FVec Ideal S8x256 .f32 := subf (mulf (b r2) a0) (mulf (b r0) a2)
  let c3 : FVec Ideal S8x256 .f32 := subf (mulf (b r0) a1) (mulf (b r1) a0)
  mulf (atan2 (sqrt (addf (addf (mulf c1 c1) (mulf c2 c2)) (mulf c3 c3)))
      (addf (addf (mulf (b r0) a0) (mulf (b r1) a1)) (mulf (b r2) a2)))
    (broadcast S8x256 (Scalar.ofBits .f32 0x40747645#32))

/-! ## The same arrays at an index -/

/-- The kernel's sine at an index. -/
theorem sinV_at (u : FVec Ideal S128x256 .f32) (f : Fin 128) (j : Fin 256) : sinV u (ix2 f j) = sine (u (ix2 f j)) := by
  pointwise [sinV, turnsV, remV, sinPV, cosPV, oddV, twoV, negV]
  exact byQuarter_sin (quarter (u (ix2 f j))) (sinP (remd (u (ix2 f j)))) (cosP (remd (u (ix2 f j))))

/-- The kernel's cosine at an index. -/
theorem cosV_at (u : FVec Ideal S128x256 .f32) (f : Fin 128) (j : Fin 256) : cosV u (ix2 f j) = cosine (u (ix2 f j)) := by
  pointwise [cosV, turnsV, remV, sinPV, cosPV, oddV, twoV, negV]
  exact byQuarter_cos (quarter (u (ix2 f j))) (sinP (remd (u (ix2 f j)))) (cosP (remd (u (ix2 f j))))

/-- The phases at an index. -/
theorem phaseV_at (div : FVec Ideal S128x1 .f32) (row : FVec Ideal S1x256 .f32) (f : Fin 128) (j : Fin 256) :
    phaseV div row (ix2 f j) = div (ix2 f 0) * row (ix2 0 j) := by
  pointwise [phaseV]

/-- One row's projected embedding at an index. -/
theorem embV_at (div : FVec Ideal S128x1 .f32) (row : FVec Ideal S1x256 .f32) (ws wc : FVec Ideal S256x128 .f32) (j o : Fin 256) :
    embV div row ws wc (ix2 j o)
      = emb sine cosine (fun f => div (ix2 f 0)) (row (ix2 0 j)) (fun f => ws (ix2 o f)) (fun f => wc (ix2 o f)) := by
  pointwise [embV]
  simp only [sinV_at, cosV_at, phaseV_at]
  rfl

/-- One row of the result at an index, the row being number `n` of the block's index arrays. -/
theorem rowV_at (div : FVec Ideal S128x1 .f32) (bd ba : FVec Ideal S1x256 .f32) (wds wdc was wac : FVec Ideal S256x128 .f32)
    (d a0 a1 a2 : FVec Ideal S8x256 .f32) (n : Fin 8) (hs : S8x256.Slices ![n.val, 0] S1x256) (x : S1x1x256x256.Idx)
    (y : S1x8x256x256.Idx) (h1 : (y 1 : ℕ) = n + (x 1 : ℕ)) (h2 : (y 2 : ℕ) = x 2) (h3 : (y 3 : ℕ) = x 3) :
    rowV div bd ba wds wdc was wac (extractStridedSlice S1x256 ![n.val, 0] d hs) (extractStridedSlice S1x256 ![n.val, 0] a0 hs)
        (extractStridedSlice S1x256 ![n.val, 0] a1 hs) (extractStridedSlice S1x256 ![n.val, 0] a2 hs) x
      = cell sine cosine (fun f => div (ix2 f 0)) (bd (ix2 0 (y 3))) (ba (ix2 0 (y 3))) (fun f => wds (ix2 (y 3) f))
          (fun f => wdc (ix2 (y 3) f)) (fun f => was (ix2 (y 3) f)) (fun f => wac (ix2 (y 3) f))
          (d (ix2 (y 1) (y 2))) (a0 (ix2 (y 1) (y 2))) (a1 (ix2 (y 1) (y 2))) (a2 (ix2 (y 1) (y 2))) := by
  idx_vars x
  idx_vars y
  pointwise [rowV]
  simp only [embV_at]
  pointwise
  have hx : (x1 : ℕ) < 1 := x1.isLt
  change (y1 : ℕ) = n + (x1 : ℕ) at h1
  obtain rfl : n = y1 := Fin.ext (by omega)
  obtain rfl : x2 = y2 := Fin.ext (by omega)
  obtain rfl : x3 = y3 := Fin.ext (by omega)
  rfl

end Cert.Emb

end
-- ==== Proof.Block.lean ====
module

public import proofs.«01_k».proof.Proof.Emb

@[expose] public section

set_option maxRecDepth 16384

noncomputable section

/-! # What one grid point of the second call writes -/

namespace Cert.Block

open Idealize.ShloMosaic Idealize.ShloMosaic.TcCoe Cert.KernelIdeal Cert.KernelIdeal.Gen Cert.Maths Cert.Emb

/-- The coordinate columns of a point: the first three of the eight padded ones. -/
abbrev col (k : Fin 3) : Fin 8 := Fin.castLE (by decide) k

/-- The angle index of one neighbour at row `f` and point `j` of a block: the neighbour is given by its row of weights `M`. -/
def blockAngle (x1 : FVec Ideal S8x256 .f32) (P : Fin 3 → FVec Ideal S8x1 .f32) (M : FVec Ideal S1x1x8x256 .f32) (f : Fin 8)
    (j : Fin 256) : EReal :=
  angle (fun k => (∑ x, M (ix4 0 0 f x) * x1 (ix2 (col k) x)) - P k (ix2 f 0)) (fun k => x1 (ix2 (col k) j) - P k (ix2 f 0))

/-- A row of the padded coordinates at an index. -/
theorem crow_at (x1 : FVec Ideal S8x256 .f32) (j : Fin 256) :
    k1_pay4 (F := Ideal) x1 (ix2 0 j) = x1 (ix2 0 j) ∧ k1_pay5 (F := Ideal) x1 (ix2 0 j) = x1 (ix2 1 j)
      ∧ k1_pay6 (F := Ideal) x1 (ix2 0 j) = x1 (ix2 2 j) := by
  refine ⟨?_, ?_, ?_⟩
  · pointwise [k1_pay4, k1_pay2]
  · pointwise [k1_pay5, k1_pay2]
  · pointwise [k1_pay6, k1_pay2]

/-- The points' relative coordinates at an index. -/
theorem anc_at (x1 : FVec Ideal S8x256 .f32) (P : FVec Ideal S8x1 .f32) (f : Fin 8) (j : Fin 256) :
    k1_pay10 (F := Ideal) x1 P (ix2 f j) = x1 (ix2 0 j) - P (ix2 f 0)
      ∧ k1_pay11 (F := Ideal) x1 P (ix2 f j) = x1 (ix2 1 j) - P (ix2 f 0)
      ∧ k1_pay12 (F := Ideal) x1 P (ix2 f j) = x1 (ix2 2 j) - P (ix2 f 0) := by
  refine ⟨?_, ?_, ?_⟩
  · pointwise [k1_pay10, k1_pay7, k1_pay4, k1_pay2]
  · pointwise [k1_pay11, k1_pay8, k1_pay5, k1_pay2]
  · pointwise [k1_pay12, k1_pay9, k1_pay6, k1_pay2]

/-- A row's own coordinates at an index. -/
theorem pic_at (P : FVec Ideal S8x1 .f32) (f : Fin 8) :
    k1_pay7 (F := Ideal) P (ix2 f 0) = P (ix2 f 0) ∧ k1_pay8 (F := Ideal) P (ix2 f 0) = P (ix2 f 0)
      ∧ k1_pay9 (F := Ideal) P (ix2 f 0) = P (ix2 f 0) := by
  refine ⟨?_, ?_, ?_⟩
  · pointwise [k1_pay7]
  · pointwise [k1_pay8]
  · pointwise [k1_pay9]

/-- The whole angle array of one neighbour, from the block's operands. -/
def neighbourV (x1 : FVec Ideal S8x256 .f32) (P : Fin 3 → FVec Ideal S8x1 .f32) (M : FVec Ideal S1x1x8x256 .f32) :
    FVec Ideal S8x256 .f32 :=
  angV (relV (shapeCast S8x256 M shapeCasts_S1x1x8x256_S8x256) (k1_pay4 x1) (k1_pay7 (P 0)))
    (relV (shapeCast S8x256 M shapeCasts_S1x1x8x256_S8x256) (k1_pay5 x1) (k1_pay8 (P 1)))
    (relV (shapeCast S8x256 M shapeCasts_S1x1x8x256_S8x256) (k1_pay6 x1) (k1_pay9 (P 2)))
    (k1_pay10 x1 (P 0)) (k1_pay11 x1 (P 1)) (k1_pay12 x1 (P 2))

/-- The relative coordinate at an index. -/
theorem relV_at (M : FVec Ideal S1x1x8x256 .f32) (crow : FVec Ideal S1x256 .f32) (pic : FVec Ideal S8x1 .f32) (f : Fin 8) :
    relV (shapeCast S8x256 M shapeCasts_S1x1x8x256_S8x256) crow pic (ix2 f 0)
      = (∑ x, M (ix4 0 0 f x) * crow (ix2 0 x)) - pic (ix2 f 0) := by
  pointwise [relV]

/-- The angle array of one neighbour at an index. -/
theorem neighbourV_at (x1 : FVec Ideal S8x256 .f32) (P : Fin 3 → FVec Ideal S8x1 .f32) (M : FVec Ideal S1x1x8x256 .f32)
    (f : Fin 8) (j : Fin 256) : neighbourV x1 P M (ix2 f j) = blockAngle x1 P M f j := by
  have hr0 := relV_at M (k1_pay4 x1) (k1_pay7 (P 0)) f
  have hr1 := relV_at M (k1_pay5 x1) (k1_pay8 (P 1)) f
  have hr2 := relV_at M (k1_pay6 x1) (k1_pay9 (P 2)) f
  simp only [(crow_at x1 _).1, (crow_at x1 _).2.1, (crow_at x1 _).2.2, (pic_at _ f).1, (pic_at _ f).2.1, (pic_at _ f).2.2] at hr0 hr1 hr2
  have ha0 := (anc_at x1 (P 0) f j).1
  have ha1 := (anc_at x1 (P 1) f j).2.1
  have ha2 := (anc_at x1 (P 2) f j).2.2
  unfold neighbourV
  generalize relV (shapeCast S8x256 M shapeCasts_S1x1x8x256_S8x256) (k1_pay4 x1) (k1_pay7 (P 0)) = r0 at hr0 ⊢
  generalize relV (shapeCast S8x256 M shapeCasts_S1x1x8x256_S8x256) (k1_pay5 x1) (k1_pay8 (P 1)) = r1 at hr1 ⊢
  generalize relV (shapeCast S8x256 M shapeCasts_S1x1x8x256_S8x256) (k1_pay6 x1) (k1_pay9 (P 2)) = r2 at hr2 ⊢
  generalize k1_pay10 (F := Ideal) x1 (P 0) = a0 at ha0 ⊢
  generalize k1_pay11 (F := Ideal) x1 (P 1) = a1 at ha1 ⊢
  generalize k1_pay12 (F := Ideal) x1 (P 2) = a2 at ha2 ⊢
  pointwise [angV]
  rw [hr0, hr1, hr2, ha0, ha1, ha2]
  rfl

/-- One index of what a grid point writes, from its operands: the distances `x2`, the points' padded coordinates `x1`, the
    rows' own coordinates `P`, the neighbours' rows of weights `M`, the weights `x4 … x7`, the biases `x8 x9`, the
    frequencies `x10`. -/
def blockCell (x1 : FVec Ideal S8x256 .f32) (x2 : FVec Ideal S1x8x256 .f32) (x4 x5 x6 x7 : FVec Ideal S256x128 .f32)
    (x8 x9 : FVec Ideal S1x256 .f32) (x10 : FVec Ideal S128x1 .f32) (P : Fin 3 → FVec Ideal S8x1 .f32)
    (M : Fin 3 → FVec Ideal S1x1x8x256 .f32) (f : Fin 8) (j o : Fin 256) : EReal :=
  cell sine cosine (fun f => x10 (ix2 f 0)) (x8 (ix2 0 o)) (x9 (ix2 0 o)) (fun f => x4 (ix2 o f))
    (fun f => x5 (ix2 o f)) (fun f => x6 (ix2 o f)) (fun f => x7 (ix2 o f))
    (Ideal.div (x2 (ix3 0 f j)) (Ideal.ofBits .f32 0x3E4CCCCD#32)) (blockAngle x1 P (M 0) f j) (blockAngle x1 P (M 1) f j)
    (blockAngle x1 P (M 2) f j)

/-- One row of what a grid point writes, at an index. -/
theorem piece_at (n : Fin 8) (hs : S8x256.Slices ![n.val, 0] S1x256) (x : S1x1x256x256.Idx) (f : Fin 8) (j o : Fin 256)
    (h1 : (f : ℕ) = n + (x 1 : ℕ)) (h2 : (j : ℕ) = x 2) (h3 : (o : ℕ) = x 3)
    (x1 : FVec Ideal S8x256 .f32) (x2 : FVec Ideal S1x8x256 .f32) (x4 x5 x6 x7 : FVec Ideal S256x128 .f32)
    (x8 x9 : FVec Ideal S1x256 .f32) (x10 : FVec Ideal S128x1 .f32) (P : Fin 3 → FVec Ideal S8x1 .f32)
    (M : Fin 3 → FVec Ideal S1x1x8x256 .f32) :
    rowV (k1_pay13 x10) (k1_pay14 x8) (k1_pay15 x9) x4 x5 x6 x7 (extractStridedSlice S1x256 ![n.val, 0] (k1_pay3 x2) hs)
        (extractStridedSlice S1x256 ![n.val, 0] (neighbourV x1 P (M 0)) hs)
        (extractStridedSlice S1x256 ![n.val, 0] (neighbourV x1 P (M 1)) hs)
        (extractStridedSlice S1x256 ![n.val, 0] (neighbourV x1 P (M 2)) hs) x
      = blockCell x1 x2 x4 x5 x6 x7 x8 x9 x10 P M f j o := by
  refine (rowV_at (k1_pay13 x10) (k1_pay14 x8) (k1_pay15 x9) x4 x5 x6 x7 (k1_pay3 x2) _ _ _ n hs x (ix4 0 f j o) h1 h2 h3).trans ?_
  show cell sine cosine (fun f => k1_pay13 (F := Ideal) x10 (ix2 f 0)) (k1_pay14 (F := Ideal) x8 (ix2 0 o)) (k1_pay15 (F := Ideal) x9 (ix2 0 o))
    _ _ _ _ (k1_pay3 (F := Ideal) x2 (ix2 f j)) (neighbourV x1 P (M 0) (ix2 f j)) (neighbourV x1 P (M 1) (ix2 f j))
    (neighbourV x1 P (M 2) (ix2 f j)) = _
  have e13 : ∀ f : Fin 128, k1_pay13 (F := Ideal) x10 (ix2 f 0) = x10 (ix2 f 0) := fun f => by pointwise [k1_pay13]
  have e14 : k1_pay14 (F := Ideal) x8 (ix2 0 o) = x8 (ix2 0 o) := by pointwise [k1_pay14]
  have e15 : k1_pay15 (F := Ideal) x9 (ix2 0 o) = x9 (ix2 0 o) := by pointwise [k1_pay15]
  have e3 : k1_pay3 (F := Ideal) x2 (ix2 f j) = Ideal.div (x2 (ix3 0 f j)) (Ideal.ofBits .f32 0x3E4CCCCD#32) := by
    pointwise [k1_pay3]
  rw [funext e13, e14, e15, e3, neighbourV_at, neighbourV_at, neighbourV_at]
  rfl

variable (V : (c : Dev nD) → (b : Ref sig .tc) → Buf (Elt Ideal) ((c : Thread nD τ).loc b))

/-- The row of the whole array that a grid point's block holds in its row `f`. -/
def prow (t : Fin cfg1.N) (f : Fin 8) : Fin 256 := ⟨8 * t.val + f.val, by have : t.val < 32 := t.isLt; omega⟩

/-- A block's row can be taken out of it. -/
theorem rows (n : Fin 8) : S8x256.Slices ![n.val, 0] S1x256 := by revert n; decide

/-- Eight times a grid point's number, as the kernel computes it, is that number. -/
theorem start_eq : ∀ t : Fin cfg1.N, k1_off1 (grid1.coords t) = ![8 * t.val, 0] ∧ k1_off2 (grid1.coords t) = ![8 * t.val, 1]
    ∧ k1_off3 (grid1.coords t) = ![8 * t.val, 2] :=
  (by decide +kernel : ∀ t : Fin grid1.N, _)

/-- What a grid point writes, at an index of its block, from its operands' blocks. -/
theorem outs_at (c : Dev nD) (t : Fin cfg1.N) (b : Fin 1) (f : Fin 8) (j o : Fin 256) :
    outsAt1 V c t (ix4 b f j o)
      = blockCell (iblk1 V c 1 t) (iblk1 V c 2 t) (iblk1 V c 4 t) (iblk1 V c 5 t) (iblk1 V c 6 t) (iblk1 V c 7 t)
          (iblk1 V c 8 t) (iblk1 V c 9 t) (iblk1 V c 10 t) (fun k i => iblk1 V c 0 t (ix2 (prow t (i 0)) (col k)))
          (fun k i => iblk1 V c 3 t (ix4 0 k (i 2) (i 3))) f j o := by
  unfold outsAt1
  frame_out
  generalize iblk1 V c 0 t = x0
  generalize iblk1 V c 1 t = x1
  generalize iblk1 V c 2 t = x2
  generalize iblk1 V c 3 t = x3
  generalize iblk1 V c 4 t = x4
  generalize iblk1 V c 5 t = x5
  generalize iblk1 V c 6 t = x6
  generalize iblk1 V c 7 t = x7
  generalize iblk1 V c 8 t = x8
  generalize iblk1 V c 9 t = x9
  generalize iblk1 V c 10 t = x10
  obtain ⟨o1, o2, o3⟩ := start_eq t
  generalize hP0 : View.ld x0 (Rect.unit (s := S256x8) (k1_off1 (grid1.coords t)) S8x1.size (k1_off1_inb (grid1.coords t))) = P0
  generalize hP1 : View.ld x0 (Rect.unit (s := S256x8) (k1_off2 (grid1.coords t)) S8x1.size (k1_off2_inb (grid1.coords t))) = P1
  generalize hP2 : View.ld x0 (Rect.unit (s := S256x8) (k1_off3 (grid1.coords t)) S8x1.size (k1_off3_inb (grid1.coords t))) = P2
  generalize hM0 : View.ld x3 (Rect.unit (s := S1x3x8x256) ![0, 0, 0, 0] S1x1x8x256.size inb_S1x3x8x256_S1x1x8x256_0_0_0_0) = M0
  generalize hM1 : View.ld x3 (Rect.unit (s := S1x3x8x256) ![0, 1, 0, 0] S1x1x8x256.size inb_S1x3x8x256_S1x1x8x256_0_1_0_0) = M1
  generalize hM2 : View.ld x3 (Rect.unit (s := S1x3x8x256) ![0, 2, 0, 0] S1x1x8x256.size inb_S1x3x8x256_S1x1x8x256_0_2_0_0) = M2
  have e0 : ∀ f : Fin 8, (P0 (ix2 f 0) : EReal) = x0 (ix2 (prow t f) (col 0)) := fun f => by
    rw [← hP0]
    pointwise
    simp only [o1]
    rfl
  have e1 : ∀ f : Fin 8, (P1 (ix2 f 0) : EReal) = x0 (ix2 (prow t f) (col 1)) := fun f => by
    rw [← hP1]
    pointwise
    simp only [o2]
    rfl
  have e2 : ∀ f : Fin 8, (P2 (ix2 f 0) : EReal) = x0 (ix2 (prow t f) (col 2)) := fun f => by
    rw [← hP2]
    pointwise
    simp only [o3]
    rfl
  have m0 : ∀ (f : Fin 8) (j : Fin 256), (M0 (ix4 0 0 f j) : EReal) = x3 (ix4 0 0 f j) := fun f j => by
    rw [← hM0]
    pointwise
  have m1 : ∀ (f : Fin 8) (j : Fin 256), (M1 (ix4 0 0 f j) : EReal) = x3 (ix4 0 1 f j) := fun f j => by
    rw [← hM1]
    pointwise
  have m2 : ∀ (f : Fin 8) (j : Fin 256), (M2 (ix4 0 0 f j) : EReal) = x3 (ix4 0 2 f j) := fun f j => by
    rw [← hM2]
    pointwise
  clear hP0 hP1 hP2 hM0 hM1 hM2
  have hP : (fun (k : Fin 3) (i : S8x1.Idx) => (x0 (ix2 (prow t (i 0)) (col k)) : EReal)) = ![P0, P1, P2] := by
    funext k i
    idx_vars i
    obtain rfl : i1 = 0 := Subsingleton.elim _ _
    match k with
    | 0 => exact (e0 i0).symm
    | 1 => exact (e1 i0).symm
    | 2 => exact (e2 i0).symm
  have hM : (fun (k : Fin 3) (i : S1x1x8x256.Idx) => (x3 (ix4 0 k (i 2) (i 3)) : EReal)) = ![M0, M1, M2] := by
    funext k i
    idx_vars i
    obtain rfl : i0 = 0 := Subsingleton.elim _ _
    obtain rfl : i1 = 0 := Subsingleton.elim _ _
    match k with
    | 0 => exact (m0 i2 i3).symm
    | 1 => exact (m1 i2 i3).symm
    | 2 => exact (m2 i2 i3).symm
  rw [hP, hM]
  have piece (n : Fin 8) (x : S1x1x256x256.Idx) (h1 h2 h3) :=
    piece_at n (rows n) x f j o h1 h2 h3 x1 x2 x4 x5 x6 x7 x8 x9 x10 ![P0, P1, P2] ![M0, M1, M2]
  canon_tiles x h
  · exact piece 7 x h1 h2 h3
  · exact piece 6 x h1 h2 h3
  · exact piece 5 x h1 h2 h3
  · exact piece 4 x h1 h2 h3
  · exact piece 3 x h1 h2 h3
  · exact piece 2 x h1 h2 h3
  · exact piece 1 x h1 h2 h3
  · exact piece 0 x (h1.trans (Nat.zero_add _).symm) h2 h3

end Cert.Block

end
-- ==== Proof.Call2.lean ====
module

public import proofs.«01_k».proof.Proof.Block

@[expose] public section

set_option maxRecDepth 16384

noncomputable section

/-! # What the second call leaves, from the arrays it finds -/

namespace Cert.Call2

open Idealize.ShloMosaic Idealize.ShloMosaic.TcCoe Cert.KernelIdeal Cert.KernelIdeal.Gen Cert.Maths Cert.Emb Cert.Block

variable (V : (c : Dev nD) → (b : Ref sig .tc) → Buf (Elt Ideal) ((c : Thread nD τ).loc b))

/-- The block each grid point reads and writes of each array. -/
theorem idx : ∀ t : Fin cfg1.N, win1_0.index t = ![0, 0] ∧ win1_1.index t = ![0, 0] ∧ win1_2.index t = ![t.val, 0, 0]
    ∧ win1_3.index t = ![0, 0, t.val, 0] ∧ win1_4.index t = ![0, 0] ∧ win1_5.index t = ![0, 0] ∧ win1_6.index t = ![0, 0]
    ∧ win1_7.index t = ![0, 0] ∧ win1_8.index t = ![0, 0] ∧ win1_9.index t = ![0, 0] ∧ win1_10.index t = ![0, 0]
    ∧ win1_11.index t = ![0, t.val, 0, 0] := (by decide +kernel : ∀ t : Fin grid1.N, _)

/-- The angle index of one neighbour, from the whole arrays: the padded points `X` and their transpose `XT`, the neighbour's
    row of weights `h`. -/
def arrayAngle (X : FVec Ideal S256x8 .f32) (XT : FVec Ideal S8x256 .f32) (h : Fin 256 → EReal) (i j : Fin 256) : EReal :=
  angle (fun k => (∑ x, h x * XT (ix2 (col k) x)) - X (ix2 i (col k))) (fun k => XT (ix2 (col k) j) - X (ix2 i (col k)))

/-- The result at an index, from the whole arrays. -/
def arrayCell (X : FVec Ideal S256x8 .f32) (XT : FVec Ideal S8x256 .f32) (D : FVec Ideal S32x8x256 .f32)
    (H : FVec Ideal S1x3x256x256 .f32) (wds wdc was wac : FVec Ideal S256x128 .f32) (bd ba : FVec Ideal S1x256 .f32)
    (div : FVec Ideal S128x1 .f32) (i j o : Fin 256) : EReal :=
  cell sine cosine (fun f => div (ix2 f 0)) (bd (ix2 0 o)) (ba (ix2 0 o)) (fun f => wds (ix2 o f)) (fun f => wdc (ix2 o f))
    (fun f => was (ix2 o f)) (fun f => wac (ix2 o f))
    (Ideal.div (D (ix3 ⟨i.val / 8, by omega⟩ ⟨i.val % 8, by omega⟩ j)) (Ideal.ofBits .f32 0x3E4CCCCD#32))
    (arrayAngle X XT (fun x => H (ix4 0 0 i x)) i j) (arrayAngle X XT (fun x => H (ix4 0 1 i x)) i j)
    (arrayAngle X XT (fun x => H (ix4 0 2 i x)) i j)

/-- The angle index at an index, from the whole blocks. -/
theorem blockAngle_eq (x0 : FVec Ideal S256x8 .f32) (x1 : FVec Ideal S8x256 .f32) (x3 : FVec Ideal S1x3x8x256 .f32)
    (t : Fin cfg1.N) (k : Fin 3) (f : Fin 8) (j : Fin 256) :
    blockAngle x1 (fun k i => x0 (ix2 (prow t (i 0)) (col k))) (fun i => x3 (ix4 0 k (i 2) (i 3))) f j
      = angle (fun l => (∑ x, x3 (ix4 0 k f x) * x1 (ix2 (col l) x)) - x0 (ix2 (prow t f) (col l)))
          (fun l => x1 (ix2 (col l) j) - x0 (ix2 (prow t f) (col l))) := rfl

/-- The operands read whole at every point. -/
theorem wholes (c : Dev nD) (t : Fin cfg1.N) :
    (iblk1 V c 0 t : FVec Ideal S256x8 .f32) = V c main_v3 ∧ (iblk1 V c 1 t : FVec Ideal S8x256 .f32) = V c main_v8
      ∧ (iblk1 V c 4 t : FVec Ideal S256x128 .f32) = V c main_v15 ∧ (iblk1 V c 5 t : FVec Ideal S256x128 .f32) = V c main_v16
      ∧ (iblk1 V c 6 t : FVec Ideal S256x128 .f32) = V c main_v17 ∧ (iblk1 V c 7 t : FVec Ideal S256x128 .f32) = V c main_v18
      ∧ (iblk1 V c 8 t : FVec Ideal S1x256 .f32) = V c main_v11 ∧ (iblk1 V c 9 t : FVec Ideal S1x256 .f32) = V c main_v12
      ∧ (iblk1 V c 10 t : FVec Ideal S128x1 .f32) = V c main_v13 := by
  refine ⟨?_, ?_, ?_, ?_, ?_, ?_, ?_, ?_, ?_⟩ <;>
  · funext y
    blk_ext [iblk1, idx t]

/-- The distances read at a point: its own eight rows. -/
theorem block_dist (c : Dev nD) (t : Fin cfg1.N) (f : Fin 8) (j : Fin 256) :
    @Eq EReal (iblk1 V c 2 t (ix3 0 f j)) (V c main_v14 (ix3 ⟨(prow t f).val / 8, by omega⟩ ⟨(prow t f).val % 8, by omega⟩ j)) := by
  unfold prow
  blk_ext [iblk1, idx t]

/-- The neighbours' rows of weights read at a point: those of its own eight rows. -/
theorem block_hot (c : Dev nD) (t : Fin cfg1.N) (k : Fin 3) (f : Fin 8) (j : Fin 256) :
    @Eq EReal (iblk1 V c 3 t (ix4 0 k f j)) (V c main_v10 (ix4 0 k (prow t f) j)) := by
  unfold prow
  blk_ext [iblk1, idx t]

/-- The result of the second call at an index, from the arrays it finds. -/
def resultAt (c : Dev nD) (i j o : Fin 256) : EReal :=
  arrayCell (V c main_v3) (V c main_v8) (V c main_v14) (V c main_v10) (V c main_v15)
    (V c main_v16) (V c main_v17) (V c main_v18) (V c main_v11) (V c main_v12) (V c main_v13) i j o

/-- What a grid point writes, from the whole arrays. -/
theorem point_at (c : Dev nD) (t : Fin cfg1.N) (b : Fin 1) (f : Fin 8) (j o : Fin 256) :
    outsAt1 V c t (ix4 b f j o) = resultAt V c (prow t f) j o := by
  obtain ⟨e0, e1, e4, e5, e6, e7, e8, e9, e10⟩ := wholes V c t
  refine (outs_at V c t b f j o).trans ?_
  have ang (k : Fin 3) : blockAngle (iblk1 V c 1 t) (fun k i => iblk1 V c 0 t (ix2 (prow t (i 0)) (col k)))
      (fun i => iblk1 V c 3 t (ix4 0 k (i 2) (i 3))) f j
      = arrayAngle (V c main_v3) (V c main_v8) (fun x => V c main_v10 (ix4 0 k (prow t f) x)) (prow t f) j := by
    rw [blockAngle_eq, e0, e1]
    simp only [block_hot]
    rfl
  unfold blockCell resultAt arrayCell
  rw [ang, ang, ang, e4, e5, e6, e7, e8, e9, e10, block_dist]

/-- The result of the second call, from the arrays it finds. -/
theorem result_arr (c : Dev nD) :
    (dat1 V c).arrAt 11 cfg1.N = fun y : S1x256x256x256.Idx => resultAt V c (y 1) (y 2) (y 3) := by
  refine (dat1 V c).arrAt_eq_of_covers 11 _ (by decide +kernel) fun t hf y => ?_
  blk_simp
  rw [after1_11]
  idx_vars y
  refine (point_at V c t y0 y1 y2 y3).trans ?_
  have key (z : S1x256x256x256.Idx) (hz : z = ix4 0 (prow t y1) y2 y3) :
      resultAt V c (prow t y1) y2 y3 = resultAt V c (z 1) (z 2) (z 3) := by rw [hz]; rfl
  refine key _ ?_
  unfold prow
  blk_ext [idx t]

end Cert.Call2

end
-- ==== Proof.Host.lean ====
module

public import proofs.«01_k».proof.Proof.Gen.KernelIdeal.Frame
public import Idealize.ShloMosaic.Lib.Pipeline.ValueKit
public import Idealize.ShloMosaic.Lib.Pointwise
public import Idealize.ShloMosaic.Lib.Claim
public import Idealize.ShloMosaic.Lib.Routing.OpsSet
public import Idealize.ShloMosaic.Lib.Routing.OpsPair

@[expose] public section

set_option maxRecDepth 16384

noncomputable section

/-! # The host's operations around the two calls -/

namespace Cert.Host

open Idealize.ShloMosaic Idealize.ShloMosaic.TcCoe Idealize.SL.Sem Cert.KernelIdeal Cert.KernelIdeal.Gen Cert.KernelIdeal.Facts₀

/-- Where an update of the padded points lands: at its own place. -/
theorem pad_lands (idx : IVec S1 32) (h : ∀ i, idx i = 0#32) (a : Fin 256) (b : Fin 3) (i : Fin 256) (c : Fin 8) :
    scatter_S256x8_S1_S256x3_01_n_1_0.resultIdx? (ix2 a b) idx = some (ix2 i c) ↔ a = i ∧ b.val = c.val := by
  rw [Routing.resultIdx?_eq_some]
  have hs : ∀ q, scatter_S256x8_S1_S256x3_01_n_1_0.start (ix2 a b) idx q = 0 := fun q => by
    unfold ScatterDims.start
    split
    · rw [h]; rfl
    · rfl
  have h0 : scatter_S256x8_S1_S256x3_01_n_1_0.window (ix2 a b) 0 = a.val := rfl
  have h1 : scatter_S256x8_S1_S256x3_01_n_1_0.window (ix2 a b) 1 = b.val := rfl
  constructor
  · intro q
    have q0 := q 0
    have q1 := q 1
    rw [hs, h0] at q0
    rw [hs, h1] at q1
    change (0 : Int) + (a.val : Int) = (i.val : Int) at q0
    change (0 : Int) + (b.val : Int) = (c.val : Int) at q1
    exact ⟨Fin.ext (by omega), by omega⟩
  · rintro ⟨rfl, e⟩ q
    rw [hs]
    match q with
    | 0 => rw [h0]; exact zero_add _
    | 1 => rw [h1, e]; exact zero_add _

/-- Where an update of the padded transposed points lands: at its own place. -/
theorem padT_lands (idx : IVec S1 32) (h : ∀ i, idx i = 0#32) (b : Fin 3) (a : Fin 256) (c : Fin 8) (i : Fin 256) :
    scatter_S8x256_S1_S3x256_01_n_0_0.resultIdx? (ix2 b a) idx = some (ix2 c i) ↔ b.val = c.val ∧ a = i := by
  rw [Routing.resultIdx?_eq_some]
  have hs : ∀ q, scatter_S8x256_S1_S3x256_01_n_0_0.start (ix2 b a) idx q = 0 := fun q => by
    unfold ScatterDims.start
    split
    · rw [h]; rfl
    · rfl
  have h0 : scatter_S8x256_S1_S3x256_01_n_0_0.window (ix2 b a) 0 = b.val := rfl
  have h1 : scatter_S8x256_S1_S3x256_01_n_0_0.window (ix2 b a) 1 = a.val := rfl
  constructor
  · intro q
    have q0 := q 0
    have q1 := q 1
    rw [hs, h0] at q0
    rw [hs, h1] at q1
    change (0 : Int) + (b.val : Int) = (c.val : Int) at q0
    change (0 : Int) + (a.val : Int) = (i.val : Int) at q1
    exact ⟨by omega, Fin.ext (by omega)⟩
  · rintro ⟨e, rfl⟩ q
    rw [hs]
    match q with
    | 0 => rw [h0, e]; exact zero_add _
    | 1 => rw [h1]; exact zero_add _

/-- The points padded from three coordinates to eight by zeros. -/
def padded (p : Fin 256 → Fin 3 → EReal) (i : Fin 256) (c : Fin 8) : EReal := if h : c.val < 3 then p i ⟨c.val, h⟩ else 0

/-- The scatter of the points into zeros, at an index. -/
theorem pad_at (z : FVec Ideal S256x8 .f32) (idx : IVec S1 32) (u : FVec Ideal S256x3 .f32) (hz : ∀ y, z y = (0 : EReal))
    (h : ∀ i, idx i = 0#32) (i : Fin 256) (c : Fin 8) :
    @Eq EReal (Host.scatter scatter_S256x8_S1_S256x3_01_n_1_0 (fun _ b => b) z idx u (ix2 i c))
      (padded (fun i k => u (ix2 i k)) i c) := by
  unfold padded
  by_cases hc : c.val < 3
  · rw [dif_pos hc]
    refine Routing.scatter_set_hit _ _ _ _ _ _ (fun k hk => ?_) (ix2 i ⟨c.val, hc⟩) ((pad_lands idx h _ _ _ _).mpr ⟨rfl, rfl⟩)
    idx_vars k
    obtain ⟨rfl, e⟩ := (pad_lands idx h _ _ _ _).mp hk
    obtain rfl : k1 = ⟨c.val, hc⟩ := Fin.ext e
    rfl
  · rw [dif_neg hc]
    refine (Routing.scatter_set_miss _ _ _ _ _ fun k hk => ?_).trans (hz _)
    idx_vars k
    obtain ⟨-, e⟩ := (pad_lands idx h _ _ _ _).mp hk
    have := k1.isLt
    omega

/-- The scatter of the transposed points into zeros, at an index. -/
theorem padT_at (z : FVec Ideal S8x256 .f32) (idx : IVec S1 32) (u : FVec Ideal S3x256 .f32) (hz : ∀ y, z y = (0 : EReal))
    (h : ∀ i, idx i = 0#32) (i : Fin 256) (c : Fin 8) :
    @Eq EReal (Host.scatter scatter_S8x256_S1_S3x256_01_n_0_0 (fun _ b => b) z idx u (ix2 c i))
      (padded (fun i k => u (ix2 k i)) i c) := by
  unfold padded
  by_cases hc : c.val < 3
  · rw [dif_pos hc]
    refine Routing.scatter_set_hit _ _ _ _ _ _ (fun k hk => ?_) (ix2 ⟨c.val, hc⟩ i) ((padT_lands idx h _ _ _ _).mpr ⟨rfl, rfl⟩)
    idx_vars k
    obtain ⟨e, rfl⟩ := (padT_lands idx h _ _ _ _).mp hk
    obtain rfl : k0 = ⟨c.val, hc⟩ := Fin.ext e
    rfl
  · rw [dif_neg hc]
    refine (Routing.scatter_set_miss _ _ _ _ _ fun k hk => ?_).trans (hz _)
    idx_vars k
    obtain ⟨e, -⟩ := (padT_lands idx h _ _ _ _).mp hk
    have := k0.isLt
    omega

variable (m : (ℓ : Loc nD τ sig) → Buf (Elt Ideal) ℓ) (ρ : Dev nD → PrngReg)

/-- The padded points the first call finds. -/
theorem points_at (c : Dev nD) (i : Fin 256) (k : Fin 8) :
    @Eq EReal (V1 m ρ c main_v3 (ix2 i k)) (padded (fun i k => m ((c : Thread nD τ).loc main_arg0) (ix3 0 i k)) i k) := by
  show StableHlo.after hostOps0 (W0 m ρ c) (Proc.devRef .tc main_v3) (ix2 i k) = _
  entry_read
  refine (pad_at _ _ _ (fun y => ?_) (fun y => ?_) i k).trans ?_
  · idx_vars y
    pointwise
  · idx_vars y
    pointwise
  · congr 1
    funext i k
    pointwise

/-- The padded transposed points the first stretch leaves. -/
theorem pointsT_at (c : Dev nD) (i : Fin 256) (k : Fin 8) :
    @Eq EReal (V1 m ρ c main_v8 (ix2 k i)) (padded (fun i k => m ((c : Thread nD τ).loc main_arg0) (ix3 0 i k)) i k) := by
  show StableHlo.after hostOps0 (W0 m ρ c) (Proc.devRef .tc main_v8) (ix2 k i) = _
  entry_read
  refine (padT_at _ _ _ (fun y => ?_) (fun y => ?_) i k).trans ?_
  · idx_vars y
    pointwise
  · idx_vars y
    pointwise
  · congr 1
    funext i k
    pointwise

/-- The frequencies the first stretch leaves. -/
theorem table_at (c : Dev nD) (f : Fin 128) :
    @Eq EReal (V1 m ρ c main_cst (ix1 f)) (Ideal.ofBits .f32 (lit0 (S128.rowMajor (ix1 f)))) := by
  show StableHlo.after hostOps0 (W0 m ρ c) (Proc.devRef .tc main_cst) (ix1 f) = _
  entry_read
  pointwise

/-- What the first stretch wrote is what the second call finds. -/
theorem kept (c : Dev nD) : V3 m ρ c main_v3 = V1 m ρ c main_v3 ∧ V3 m ρ c main_v8 = V1 m ρ c main_v8
    ∧ V2 m ρ c main_cst = V1 m ρ c main_cst :=
  ⟨(W3_of m ρ c main_v3 (by decide)).trans (W2_of m ρ c main_v3 (by decide)),
    (W3_of m ρ c main_v8 (by decide)).trans (W2_of m ρ c main_v8 (by decide)), W2_of m ρ c main_cst (by decide)⟩

/-- The one-hot rows the second call finds are those the first call left. -/
theorem hot_at (c : Dev nD) (k : Fin 3) (i j : Fin 256) :
    @Eq EReal (V3 m ρ c main_v10 (ix4 0 k i j)) ((dat0 (V1 m ρ) c).arrAt 2 cfg0.N (ix3 k i j)) := by
  rw [← W2_arr m ρ c 2]
  show StableHlo.after hostOps1 (W2 m ρ c) (Proc.devRef .tc main_v10) (ix4 0 k i j) = _
  entry_read
  pointwise

/-- The distances the second call finds are those the first call left. -/
theorem dist_at (c : Dev nD) (i j : Fin 256) :
    @Eq EReal (V3 m ρ c main_v14 (ix3 ⟨i.val / 8, by omega⟩ ⟨i.val % 8, by omega⟩ j)) ((dat0 (V1 m ρ) c).arrAt 1 cfg0.N (ix2 i j)) := by
  rw [← W2_arr m ρ c 1]
  show StableHlo.after hostOps1 (W2 m ρ c) (Proc.devRef .tc main_v14) (ix3 ⟨i.val / 8, by omega⟩ ⟨i.val % 8, by omega⟩ j) = _
  entry_read
  pointwise

/-- The biases and frequencies the second call finds. -/
theorem small_at (c : Dev nD) (o : Fin 256) (f : Fin 128) :
    @Eq EReal (V3 m ρ c main_v11 (ix2 0 o)) (m ((c : Thread nD τ).loc main_arg2) (ix1 o))
      ∧ @Eq EReal (V3 m ρ c main_v12 (ix2 0 o)) (m ((c : Thread nD τ).loc main_arg4) (ix1 o))
      ∧ @Eq EReal (V3 m ρ c main_v13 (ix2 f 0)) (V2 m ρ c main_cst (ix1 f)) := by
  refine ⟨?_, ?_, ?_⟩
  · rw [← W2_args m ρ c main_arg2 (by decide)]
    show StableHlo.after hostOps1 (W2 m ρ c) (Proc.devRef .tc main_v11) (ix2 0 o) = _
    entry_read
    pointwise
  · rw [← W2_args m ρ c main_arg4 (by decide)]
    show StableHlo.after hostOps1 (W2 m ρ c) (Proc.devRef .tc main_v12) (ix2 0 o) = _
    entry_read
    pointwise
  · show StableHlo.after hostOps1 (W2 m ρ c) (Proc.devRef .tc main_v13) (ix2 f 0) = _
    entry_read
    pointwise

/-- The even and the odd columns of the weights, as the second call finds them. -/
theorem weights_at (c : Dev nD) (o : Fin 256) (f : Fin 128) :
    @Eq EReal (V3 m ρ c main_v15 (ix2 o f)) (m ((c : Thread nD τ).loc main_arg1) (ix2 o ⟨2 * f.val, by omega⟩))
      ∧ @Eq EReal (V3 m ρ c main_v16 (ix2 o f)) (m ((c : Thread nD τ).loc main_arg1) (ix2 o ⟨1 + 2 * f.val, by omega⟩))
      ∧ @Eq EReal (V3 m ρ c main_v17 (ix2 o f)) (m ((c : Thread nD τ).loc main_arg3) (ix2 o ⟨2 * f.val, by omega⟩))
      ∧ @Eq EReal (V3 m ρ c main_v18 (ix2 o f)) (m ((c : Thread nD τ).loc main_arg3) (ix2 o ⟨1 + 2 * f.val, by omega⟩)) := by
  refine ⟨?_, ?_, ?_, ?_⟩
  · rw [← W2_args m ρ c main_arg1 (by decide)]
    show StableHlo.after hostOps1 (W2 m ρ c) (Proc.devRef .tc main_v15) (ix2 o f) = _
    entry_read
    pointwise
  · rw [← W2_args m ρ c main_arg1 (by decide)]
    show StableHlo.after hostOps1 (W2 m ρ c) (Proc.devRef .tc main_v16) (ix2 o f) = _
    entry_read
    pointwise
  · rw [← W2_args m ρ c main_arg3 (by decide)]
    show StableHlo.after hostOps1 (W2 m ρ c) (Proc.devRef .tc main_v17) (ix2 o f) = _
    entry_read
    pointwise
  · rw [← W2_args m ρ c main_arg3 (by decide)]
    show StableHlo.after hostOps1 (W2 m ρ c) (Proc.devRef .tc main_v18) (ix2 o f) = _
    entry_read
    pointwise

end Cert.Host

end
-- ==== Proof.Spec.lean ====
module

public import proofs.«01_k».proof.Proof.Maths
public import proofs.«01_k».proof.Proof.Nearest

@[expose] public section

noncomputable section

/-! # The function both programs compute, from the points, the table and the weights -/

namespace Cert.Spec

open Idealize.ShloMosaic Cert.Maths Cert.Nearest

/-- The distance of two points. -/
def distance (p : Fin 256 → Fin 3 → EReal) (i j : Fin 256) : EReal :=
  Ideal.sqrt (max ((∑ k, p i k * p i k - Ideal.ofBits .f32 0x40000000#32 * ∑ k, p i k * p j k) + ∑ k, p j k * p j k) 0)

/-- A point's `k`-th nearest point, its own place being number 0. -/
def near (p : Fin 256 → Fin 3 → EReal) (i : Fin 256) (k : ℕ) : Fin 256 := nth (fun j => -distance p i j) k

/-- The distance index of two points. -/
def distIndex (p : Fin 256 → Fin 3 → EReal) (i j : Fin 256) : EReal :=
  Ideal.div (distance p i j) (Ideal.ofBits .f32 0x3E4CCCCD#32)

/-- The angle index of two points, against the first one's neighbour number `k + 1`. -/
def angleIndex (p : Fin 256 → Fin 3 → EReal) (i j : Fin 256) (k : Fin 3) : EReal :=
  angle (fun l => p (near p i (k.val + 1)) l - p i l) (fun l => p j l - p i l)

/-- The projected sinusoidal embedding of an index `x`: the even columns of the weight meet the sines, the odd ones the
    cosines. `S` and `C` are what is read for sine and cosine. -/
def project (S C : EReal → EReal) (div : Fin 128 → EReal) (w : Fin 256 → EReal) (x : EReal) : EReal :=
  emb S C div x (fun f => w ⟨2 * f.val, by omega⟩) (fun f => w ⟨1 + 2 * f.val, by omega⟩)

/-- One entry of the result: the projected distance index, plus the greatest of the three projected angle indices. -/
def result (S C : EReal → EReal) (p : Fin 256 → Fin 3 → EReal) (div : Fin 128 → EReal) (wd wa : Fin 256 → EReal) (bd ba : EReal)
    (i j : Fin 256) : EReal :=
  (project S C div wd (distIndex p i j) + bd)
    + (max (max (project S C div wa (angleIndex p i j 0)) (project S C div wa (angleIndex p i j 1)))
        (project S C div wa (angleIndex p i j 2)) + ba)

end Cert.Spec

end
-- ==== Proof.Kernel.lean ====
module

public import proofs.«01_k».proof.Proof.Call1
public import proofs.«01_k».proof.Proof.Call2
public import proofs.«01_k».proof.Proof.Host
public import proofs.«01_k».proof.Proof.Spec

@[expose] public section

set_option maxRecDepth 16384

noncomputable section

/-! # What the kernel's program leaves in its result -/

namespace Cert.Whole

open Idealize.ShloMosaic Idealize.ShloMosaic.TcCoe Idealize.ShloMosaic.Tactic Cert.KernelIdeal Cert.KernelIdeal.Gen
open Idealize.SL Idealize.SL.RA Idealize.SL.BI Idealize.SL.BI.BIBase Idealize.SL.BI.Laws Idealize.SL.ProofMode Idealize.SL.Sem
open Idealize.ShloMosaic.Rounds
open scoped Idealize.SL.BI
open Cert.Maths Cert.Nearest Cert.Spec Cert.Emb Cert.Block Cert.Call2 Cert.Host

/-- The zero columns add nothing to a sum of products. -/
theorem sum_padded (p : Fin 256 → Fin 3 → EReal) (i j : Fin 256) :
    ∑ c : Fin 8, padded p i c * padded p j c = ∑ k : Fin 3, p i k * p j k := by
  simp [Fin.sum_univ_succ, padded]

/-- The first three padded columns are the coordinates. -/
theorem padded_col (p : Fin 256 → Fin 3 → EReal) (i : Fin 256) (k : Fin 3) : padded p i (col k) = p i k := by
  unfold padded
  exact dif_pos k.isLt

/-- A one-hot row picks one entry of a sum. -/
theorem sum_hot (n : Fin 256) (q : Fin 256 → EReal) : ∑ x, (if x = n then (1 : EReal) else 0) * q x = q n := by
  simp [ite_mul]

/-- The distances of a padded array are the distances of the points in it. -/
theorem distance_of (p : Fin 256 → Fin 3 → EReal) (X : FVec Ideal S256x8 .f32) (hX : ∀ i k, X (ix2 i k) = padded p i k)
    (i j : Fin 256) : k0_pay2 (F := Ideal) X (ix2 i j) = distance p i j := by
  rw [Near.distV_at]
  simp only [hX, sum_padded]
  rfl

/-- The angle index the second call computes, its one-hot row being that of the neighbour. -/
theorem angle_of (p : Fin 256 → Fin 3 → EReal) (X : FVec Ideal S256x8 .f32) (XT : FVec Ideal S8x256 .f32)
    (hX : ∀ i k, X (ix2 i k) = padded p i k) (hT : ∀ i k, XT (ix2 k i) = padded p i k) (i j : Fin 256) (k : Fin 3)
    (h : Fin 256 → EReal) (hh : ∀ x, h x = if x = near p i (k.val + 1) then 1 else 0) :
    arrayAngle X XT h i j = angleIndex p i j k := by
  unfold arrayAngle angleIndex
  simp only [hX, hT, hh, padded_col, sum_hot]

/-- The entry of the second call's result, from what its operands hold. -/
theorem cell_of (p : Fin 256 → Fin 3 → EReal) (div : Fin 128 → EReal) (wd wa : Fin 256 → EReal) (bd ba : EReal)
    (i j o : Fin 256) (X : FVec Ideal S256x8 .f32) (XT : FVec Ideal S8x256 .f32) (D : FVec Ideal S32x8x256 .f32)
    (H : FVec Ideal S1x3x256x256 .f32) (wds wdc was wac : FVec Ideal S256x128 .f32) (vd va : FVec Ideal S1x256 .f32)
    (tab : FVec Ideal S128x1 .f32) (hX : ∀ i k, X (ix2 i k) = padded p i k) (hT : ∀ i k, XT (ix2 k i) = padded p i k)
    (hD : D (ix3 ⟨i.val / 8, by omega⟩ ⟨i.val % 8, by omega⟩ j) = distance p i j)
    (hH : ∀ (k : Fin 3) x, H (ix4 0 k i x) = if x = near p i (k.val + 1) then 1 else 0)
    (h1 : ∀ f : Fin 128, wds (ix2 o f) = wd ⟨2 * f.val, by omega⟩) (h2 : ∀ f : Fin 128, wdc (ix2 o f) = wd ⟨1 + 2 * f.val, by omega⟩)
    (h3 : ∀ f : Fin 128, was (ix2 o f) = wa ⟨2 * f.val, by omega⟩) (h4 : ∀ f : Fin 128, wac (ix2 o f) = wa ⟨1 + 2 * f.val, by omega⟩)
    (h5 : vd (ix2 0 o) = bd) (h6 : va (ix2 0 o) = ba) (h7 : ∀ f, tab (ix2 f 0) = div f) :
    arrayCell X XT D H wds wdc was wac vd va tab i j o = result sine cosine p div wd wa bd ba i j := by
  unfold arrayCell cell result project distIndex
  rw [angle_of p X XT hX hT i j 0 _ (hH 0), angle_of p X XT hX hT i j 1 _ (hH 1), angle_of p X XT hX hT i j 2 _ (hH 2), hD, h5, h6]
  simp only [h1, h2, h3, h4, h7]

local notation "𝕄" => MT nD τ sig Unit (Elt Ideal) ℕ (UR sig nD τ) ℕ

variable (m : (ℓ : Loc nD τ sig) → Buf (Elt Ideal) ℓ) (ρ : Dev nD → PrngReg)

/-- The points of the launch memory. -/
abbrev pts (c : Dev nD) (i : Fin 256) (k : Fin 3) : EReal := m ((c : Thread nD τ).loc main_arg0) (ix3 0 i k)

/-- The table of frequencies. -/
abbrev table (f : Fin 128) : EReal := Ideal.ofBits .f32 (lit0 (S128.rowMajor (ix1 f)))

/-- The kernel's result, as an array. -/
def resultArr (c : Dev nD) : FVec Ideal S1x256x256x256 .f32 := fun y =>
  result sine cosine (pts m c) table (fun q => m ((c : Thread nD τ).loc main_arg1) (ix2 (y 3) q))
    (fun q => m ((c : Thread nD τ).loc main_arg3) (ix2 (y 3) q)) (m ((c : Thread nD τ).loc main_arg2) (ix1 (y 3)))
    (m ((c : Thread nD τ).loc main_arg4) (ix1 (y 3))) (y 1) (y 2)

/-- The entry of the kernel's result. -/
theorem result_spec (c : Dev nD) (i j o : Fin 256) :
    resultAt (V3 m ρ) c i j o
      = result sine cosine (pts m c) table (fun q => m ((c : Thread nD τ).loc main_arg1) (ix2 o q))
          (fun q => m ((c : Thread nD τ).loc main_arg3) (ix2 o q)) (m ((c : Thread nD τ).loc main_arg2) (ix1 o))
          (m ((c : Thread nD τ).loc main_arg4) (ix1 o)) i j := by
  obtain ⟨k3, k8, kc⟩ := kept m ρ c
  have dist (i j) := distance_of (pts m c) (V1 m ρ c main_v3) (points_at m ρ c) i j
  have sm (f) := small_at m ρ c o f
  have wt (f) := weights_at m ρ c o f
  refine cell_of _ _ _ _ _ _ i j o _ _ _ _ _ _ _ _ _ _ _ ?_ ?_ ?_ ?_ (fun f => (wt f).1) (fun f => (wt f).2.1) (fun f => (wt f).2.2.1)
    (fun f => (wt f).2.2.2) (sm 0).1 (sm 0).2.1 (fun f => (sm f).2.2.trans ?_)
  · rw [k3]; exact points_at m ρ c
  · rw [k8]; exact pointsT_at m ρ c
  · exact (dist_at m ρ c i j).trans ((Call1.dist_arr _ c i j).trans (dist i j))
  · intro k x
    refine (hot_at m ρ c k i x).trans ((Call1.hot_arr _ c k i x).trans ?_)
    rw [show (fun j => -k0_pay2 (F := Ideal) (V1 m ρ c main_v3) (ix2 i j)) = fun j => -distance (pts m c) i j from
      funext fun j => congrArg Neg.neg (dist i j)]
    rfl
  · rw [kc]; exact table_at m ρ c f

-- the launch theorem's implicit arguments are found by unifying types up to plain definitions
set_option backward.isDefEq.respectTransparency.types false in
/-- Every run of the kernel's program ends with `resultArr` in its result and its arguments unchanged. -/
theorem run : θ_run defs (onTc (τ := τ) (main (F := Ideal))) ⟨m, fun _ => 0, ρ⟩ (fun r => ∀ c : Dev nD,
      r.2.mem ((c.tc : Thread nD τ).loc main_v19) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨((h c _ (mem_uc main_v19 (by decide))).trans (W4_arr m ρ c 11)).trans
          ((result_arr (V3 m ρ) c).trans (funext fun y => result_spec m ρ c (y 1) (y 2) (y 3))),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.Whole

end
-- ==== Proof.RefNear.lean ====
module

public import proofs.«01_k».proof.Proof.Gen.ReferenceIdeal.Run
public import Idealize.ShloMosaic.Lib.Pipeline.ValueKit
public import Idealize.ShloMosaic.Lib.Pointwise
public import Idealize.ShloMosaic.Lib.Tactic.CleanTypes
public import Idealize.ShloMosaic.Lib.Routing.OpsPair
public import proofs.«01_k».proof.Proof.Spec

@[expose] public section

set_option maxRecDepth 16384

noncomputable section

/-! # The reference's distances, neighbours and relative vectors -/

namespace Cert.RefNear

open Idealize.ShloMosaic Idealize.ShloMosaic.TcCoe Idealize.SL.Sem Idealize.ShloMosaic.StableHlo
open Cert.ReferenceIdeal Cert.ReferenceIdeal.Gen Cert.ReferenceIdeal.Value
open Cert.Maths Cert.Nearest Cert.Spec

/-- A sort's second result at an index. -/
theorem sort2_at {α β : Type} (cmp : α × β → α × β → BitVec 1) (x : S1x256x256.Idx → α) (y : S1x256x256.Idx → β) (j : S1x256x256.Idx) :
    (Host.sort2 S1x256x256 2 cmp x y).2 j = y (j.along 2 (sortedFrom (fun k k' : Fin 256 =>
      cmp (x (j.along 2 k), y (j.along 2 k)) (x (j.along 2 k'), y (j.along 2 k')) == 1#1) (j 2))) := rfl

/-- The positions of a row's greatest entries are those of its stable sort by "greater". -/
theorem topK_at (x : FVec Ideal S1x256x256 .f32) (h : S1x256x256.Slices (fun _ => 0) S1x256x4) (i : Fin 256) (r : Fin 4)
    (g : Fin 256 → EReal) (hx : ∀ j, x (ix3 0 i j) = g j) :
    (Host.topK S1x256x4 2 (FloatOps.cmpfTotal (F := Ideal) .gt) x h).2 (ix3 0 i r)
      = BitVec.ofNat 32 (sortedFrom (gtB g) ⟨r.val, by omega⟩).val := by
  have along (k : Fin 256) (r : Fin 256) : (ix3 0 i r : S1x256x256.Idx).along 2 k = ix3 0 i k := by
    funext a
    match a with
    | ⟨0, _⟩ => rfl
    | ⟨1, _⟩ => rfl
    | ⟨2, _⟩ => rfl
  have at0 : (Host.topK S1x256x4 2 (FloatOps.cmpfTotal (F := Ideal) .gt) x h).2 (ix3 0 i r)
      = (Host.sort2 S1x256x256 2 (fun l r => FloatOps.cmpfTotal (F := Ideal) .gt l.1 r.1) x (iotaInDim S1x256x256 32 2)).2
          (ix3 0 i ⟨r.val, by omega⟩) := by
    unfold Host.topK
    pointwise
    rfl
  rw [at0]
  rw [sort2_at]
  have number (k r : Fin 256) : iotaInDim S1x256x256 32 2 ((ix3 0 i r : S1x256x256.Idx).along 2 k) = BitVec.ofNat 32 k.val := by
    rw [along]
    rfl
  refine (number _ _).trans (congrArg (fun R => BitVec.ofNat 32 (sortedFrom R ⟨r.val, by omega⟩).val)
    (funext fun k => funext fun k' => ?_))
  rw [along, along, hx, hx]
  show (BitVec.ofBool (decide (g k' < g k)) == 1#1) = decide (g k' < g k)
  by_cases h : g k' < g k <;> simp [h]

/-- The gather of the neighbours' points, an index array holding a point's number. -/
theorem gather_at (x : FVec Ideal S1x256x3 .f32) (idx : IVec S1x256x3x1 32) (i : Fin 256) (k l : Fin 3) (n : Fin 256)
    (h : idx (ix4 0 i k 0) = BitVec.ofNat 32 n.val) :
    Host.gather gather_S1x256x3_S1x256x3x1_S1x256x3x3_3_1_0_0_1_3_113 x idx (ix4 0 i k l) = x (ix3 0 n l) := by
  unfold Host.gather
  congr 1
  funext a
  refine Fin.ext ?_
  match a with
  | ⟨0, h0⟩ =>
    have h1 := (gather_S1x256x3_S1x256x3x1_S1x256x3x3_3_1_0_0_1_3_113.operandIdx (ix4 0 i k l) idx ⟨0, h0⟩).isLt
    exact Nat.lt_one_iff.mp h1
  | ⟨1, h0⟩ =>
    show GatherDims.start gather_S1x256x3_S1x256x3x1_S1x256x3x3_3_1_0_0_1_3_113 (ix4 0 i k l) idx 1
        + GatherDims.batchCoord gather_S1x256x3_S1x256x3x1_S1x256x3x3_3_1_0_0_1_3_113 (ix4 0 i k l) 1
        + GatherDims.offCoord gather_S1x256x3_S1x256x3x1_S1x256x3x3_3_1_0_0_1_3_113 (ix4 0 i k l) 1 = n.val
    rw [GatherDims.batchCoord_eq_zero _ _ _ (by decide), GatherDims.offCoord_eq_zero _ _ _ (by decide)]
    unfold GatherDims.start
    rw [dif_pos (by decide)]
    rw [show gather_S1x256x3_S1x256x3x1_S1x256x3x3_3_1_0_0_1_3_113.siIdx (ix4 0 i k l) _ = ix4 0 i k 0 from by
      funext b
      match b with
      | ⟨0, _⟩ => rfl
      | ⟨1, _⟩ => rfl
      | ⟨2, _⟩ => rfl
      | ⟨3, _⟩ => rfl, h]
    show min (BitVec.ofNat 32 n.val).toInt.toNat 255 + 0 + 0 = n.val
    have hn := n.isLt
    rw [BitVec.toInt_eq_toNat_of_lt (by rw [BitVec.toNat_ofNat]; omega), BitVec.toNat_ofNat]
    omega
  | ⟨2, h0⟩ =>
    show GatherDims.start gather_S1x256x3_S1x256x3x1_S1x256x3x3_3_1_0_0_1_3_113 (ix4 0 i k l) idx 2
        + GatherDims.batchCoord gather_S1x256x3_S1x256x3x1_S1x256x3x3_3_1_0_0_1_3_113 (ix4 0 i k l) 2
        + GatherDims.offCoord gather_S1x256x3_S1x256x3x1_S1x256x3x3_3_1_0_0_1_3_113 (ix4 0 i k l) 2 = l.val
    rw [GatherDims.batchCoord_eq_zero _ _ _ (by decide)]
    unfold GatherDims.start
    rw [dif_neg (by decide)]
    show 0 + 0 + _ = _
    rw [Nat.zero_add]
    rfl

variable (V : Valuation τ sig (Elt Ideal))

/-- The points the reference is given. -/
abbrev pts (i : Fin 256) (k : Fin 3) : EReal := V (Proc.devRef .tc main_arg0) (ix3 0 i k)

/-- The reference's distances are the distances. -/
theorem dist_ref (i j : Fin 256) : @Eq EReal (res_main_v19 V (ix3 0 i j)) (distance (pts V) i j) := by
  unfold res_main_v19
  clean_types
  pointwise
  rfl

/-- The sorted array is the negated distances. -/
theorem neg_ref (i j : Fin 256) : @Eq EReal (res_main_v22 V (ix3 0 i j)) (-distance (pts V) i j) := by
  rw [← dist_ref]
  rfl

/-- The reference's neighbour number `k + 1`. -/
theorem near_ref (i : Fin 256) (k : Fin 3) (hg : ∀ j, -distance (pts V) i j ≠ ⊥) :
    @Eq (BitVec 32) (res_main_v23 V (ix3 0 i k)) (BitVec.ofNat 32 (near (pts V) i (k.val + 1)).val) := by
  unfold res_main_v23 near
  rw [nth_eq_sortedFrom _ hg _ (by omega)]
  clean_types
  pointwise
  refine (topK_at (res_main_v22 V) _ i ⟨1 + k.val, by omega⟩ _ (neg_ref V i)).trans ?_
  simp only [Nat.add_comm 1 k.val]

/-- The relative vector of the neighbour. -/
theorem rel_ref (i : Fin 256) (k l : Fin 3) (hg : ∀ j, -distance (pts V) i j ≠ ⊥) :
    @Eq EReal (res_main_v39 V (ix5 0 i 0 k l)) (pts V (near (pts V) i (k.val + 1)) l - pts V i l) := by
  unfold res_main_v39
  clean_types
  pointwise
  rw [gather_at (V (Proc.devRef .tc main_arg0)) _ i k l (near (pts V) i (k.val + 1))]
  pointwise
  have hn := (near (pts V) i (k.val + 1)).isLt
  have hw := near_ref V i k hg
  rw [hw]
  exact Routing.wrap_of_lt _ _ (by rw [BitVec.toNat_ofNat]; omega)

/-- The relative vector of the other point. -/
theorem anc_ref (i j : Fin 256) (l : Fin 3) :
    @Eq EReal (res_main_v40 V (ix5 0 i j 0 l)) (pts V j l - pts V i l) := by
  unfold res_main_v40
  clean_types
  pointwise

end Cert.RefNear

end
-- ==== Proof.RefAngle.lean ====
module

public import proofs.«01_k».proof.Proof.RefNear

@[expose] public section

set_option maxRecDepth 16384

noncomputable section

/-! # The reference's angles -/

namespace Cert.RefAngle

open Idealize.ShloMosaic Idealize.ShloMosaic.TcCoe Idealize.SL.Sem Idealize.ShloMosaic.StableHlo
open Cert.ReferenceIdeal Cert.ReferenceIdeal.Gen Cert.ReferenceIdeal.Value
open Cert.Maths Cert.Nearest Cert.Spec Cert.RefNear

/-- The angle index from sums over the coordinates. -/
theorem angle_sums (r a r' a' n : Fin 3 → EReal) (hr : ∀ l, r' l = r l) (ha : ∀ l, a' l = a l)
    (h0 : n 0 = r 1 * a 2 - r 2 * a 1) (h1 : n 1 = r 2 * a 0 - r 0 * a 2) (h2 : n 2 = r 0 * a 1 - r 1 * a 0) :
    Ideal.atan2 (Ideal.sqrt (∑ l, n l * n l)) (∑ l, r' l * a' l) * Ideal.ofBits .f32 0x40747645#32 = angle r a := by
  simp only [Fin.sum_univ_three, hr, ha, h0, h1, h2]
  rfl

variable (V : Valuation τ sig (Elt Ideal))

/-- The neighbours' relative vectors, coordinate first. -/
theorem rel_moved (i j : Fin 256) (k l : Fin 3) (hg : ∀ j, -distance (pts V) i j ≠ ⊥) :
    @Eq EReal (res_main_v43 V (ix5 l 0 i j k)) (pts V (near (pts V) i (k.val + 1)) l - pts V i l) := by
  rw [← rel_ref V i k l hg]
  unfold res_main_v43
  clean_types
  pointwise

/-- The other points' relative vectors, coordinate first. -/
theorem anc_moved (i j : Fin 256) (k l : Fin 3) : @Eq EReal (res_main_v44 V (ix5 l 0 i j k)) (pts V j l - pts V i l) := by
  rw [← anc_ref V i j l]
  unfold res_main_v44
  clean_types
  pointwise

/-- The coordinates of the neighbours' relative vectors. -/
theorem rel_coords (i j : Fin 256) (k : Fin 3) (hg : ∀ j, -distance (pts V) i j ≠ ⊥) :
    @Eq EReal (res_main_v46 V (ix4 0 i j k)) (pts V (near (pts V) i (k.val + 1)) 0 - pts V i 0)
      ∧ @Eq EReal (res_main_v48 V (ix4 0 i j k)) (pts V (near (pts V) i (k.val + 1)) 1 - pts V i 1)
      ∧ @Eq EReal (res_main_v50 V (ix4 0 i j k)) (pts V (near (pts V) i (k.val + 1)) 2 - pts V i 2) := by
  simp only [← rel_moved V i j k _ hg]
  refine ⟨?_, ?_, ?_⟩
  · unfold res_main_v46
    clean_types
    pointwise
  · unfold res_main_v48
    clean_types
    pointwise
  · unfold res_main_v50
    clean_types
    pointwise

/-- The coordinates of the other points' relative vectors. -/
theorem anc_coords (i j : Fin 256) (k : Fin 3) :
    @Eq EReal (res_main_v52 V (ix4 0 i j k)) (pts V j 0 - pts V i 0)
      ∧ @Eq EReal (res_main_v54 V (ix4 0 i j k)) (pts V j 1 - pts V i 1)
      ∧ @Eq EReal (res_main_v56 V (ix4 0 i j k)) (pts V j 2 - pts V i 2) := by
  simp only [← anc_moved V i j k _]
  refine ⟨?_, ?_, ?_⟩
  · unfold res_main_v52
    clean_types
    pointwise
  · unfold res_main_v54
    clean_types
    pointwise
  · unfold res_main_v56
    clean_types
    pointwise

/-- The cross product's coordinates. -/
theorem cross_ref (i j : Fin 256) (k : Fin 3) (r a : Fin 3 → EReal)
    (hr : @Eq EReal (res_main_v46 V (ix4 0 i j k)) (r 0) ∧ @Eq EReal (res_main_v48 V (ix4 0 i j k)) (r 1)
      ∧ @Eq EReal (res_main_v50 V (ix4 0 i j k)) (r 2))
    (ha : @Eq EReal (res_main_v52 V (ix4 0 i j k)) (a 0) ∧ @Eq EReal (res_main_v54 V (ix4 0 i j k)) (a 1)
      ∧ @Eq EReal (res_main_v56 V (ix4 0 i j k)) (a 2)) :
    @Eq EReal (res_main_v69 V (ix5 0 i j k 0)) (r 1 * a 2 - r 2 * a 1)
      ∧ @Eq EReal (res_main_v69 V (ix5 0 i j k 1)) (r 2 * a 0 - r 0 * a 2)
      ∧ @Eq EReal (res_main_v69 V (ix5 0 i j k 2)) (r 0 * a 1 - r 1 * a 0) := by
  obtain ⟨r0, r1, r2⟩ := hr
  obtain ⟨a0, a1, a2⟩ := ha
  rw [← r0, ← r1, ← r2, ← a0, ← a1, ← a2]
  refine ⟨?_, ?_, ?_⟩ <;>
  · unfold res_main_v69
    clean_types
    pointwise
    try rfl

/-- The phases of the angle indices. -/
theorem phase_ref (i j : Fin 256) (k : Fin 3) (f : Fin 128) (hg : ∀ j, -distance (pts V) i j ≠ ⊥) :
    @Eq EReal (res_main_v152 V (ix3 ⟨i.val * 768 + j.val * 3 + k.val, by omega⟩ f 0))
      (angleIndex (pts V) i j k * Ideal.ofBits .f32 (lit1 (S128.rowMajor (ix1 f)))) := by
  obtain ⟨c0, c1, c2⟩ := cross_ref V i j k (fun l => pts V (near (pts V) i (k.val + 1)) l - pts V i l)
    (fun l => pts V j l - pts V i l) (rel_coords V i j k hg) (anc_coords V i j k)
  unfold res_main_v152
  clean_types
  pointwise
  exact congrArg (· * _) (angle_sums _ _ (fun l => res_main_v39 V (ix5 0 i 0 k l)) (fun l => res_main_v40 V (ix5 0 i j 0 l))
    (fun l => res_main_v69 V (ix5 0 i j k l)) (fun l => rel_ref V i k l hg) (anc_ref V i j) c0 c1 c2)

end Cert.RefAngle

end
-- ==== Proof.RefEmb.lean ====
module

public import proofs.«01_k».proof.Proof.RefAngle

@[expose] public section

set_option maxRecDepth 16384

noncomputable section

/-! # The reference's sinusoidal embeddings -/

namespace Cert.RefEmb

open Idealize.ShloMosaic Idealize.ShloMosaic.TcCoe Idealize.SL.Sem Idealize.ShloMosaic.StableHlo
open Cert.ReferenceIdeal Cert.ReferenceIdeal.Gen Cert.ReferenceIdeal.Value
open Cert.Maths Cert.Nearest Cert.Spec Cert.RefNear

variable (V : Valuation τ sig (Elt Ideal))

/-- The phases of the distance indices. -/
theorem phase_ref (i j : Fin 256) (f : Fin 128) :
    @Eq EReal (res_main_v84 V (ix3 ⟨i.val * 256 + j.val, by omega⟩ f 0))
      (distIndex (pts V) i j * Ideal.ofBits .f32 (lit0 (S128.rowMajor (ix1 f)))) := by
  unfold distIndex
  rw [← dist_ref]
  unfold res_main_v84
  clean_types
  pointwise

/-- The polynomials of a distance's phase and its quarter. -/
theorem parts_d (y : S65536x128x1.Idx) (u : EReal) (h : @Eq EReal (res_main_v84 V y) u) :
    @Eq EReal (res_main_v102 V y) (sinP (remd u)) ∧ @Eq EReal (res_main_v116 V y) (cosP (remd u))
      ∧ @Eq (BitVec 32) (res_main_v118 V y) (IntOp.andi (quarter u) 3#32) := by
  subst h
  have t : @Eq EReal (res_main_v87 V y) (turns (res_main_v84 V y)) := by
    unfold res_main_v87 turns
    clean_types
    pointwise
  have r : @Eq EReal (res_main_v91 V y) (remd (res_main_v84 V y)) := by
    unfold res_main_v91 remd
    rw [← t]
    clean_types
    pointwise
  refine ⟨?_, ?_, ?_⟩
  · rw [← r]
    unfold res_main_v102 res_main_v92 sinP
    clean_types
    pointwise
  · rw [← r]
    unfold res_main_v116 res_main_v103 cosP
    clean_types
    pointwise
  · unfold res_main_v118 quarter
    rw [← t]
    clean_types
    pointwise
    try rfl

/-- The polynomials of an angle's phase and its quarter. -/
theorem parts_a (y : S196608x128x1.Idx) (u : EReal) (h : @Eq EReal (res_main_v152 V y) u) :
    @Eq EReal (res_main_v170 V y) (sinP (remd u)) ∧ @Eq EReal (res_main_v184 V y) (cosP (remd u))
      ∧ @Eq (BitVec 32) (res_main_v186 V y) (IntOp.andi (quarter u) 3#32) := by
  subst h
  have t : @Eq EReal (res_main_v155 V y) (turns (res_main_v152 V y)) := by
    unfold res_main_v155 turns
    clean_types
    pointwise
  have r : @Eq EReal (res_main_v159 V y) (remd (res_main_v152 V y)) := by
    unfold res_main_v159 remd
    rw [← t]
    clean_types
    pointwise
  refine ⟨?_, ?_, ?_⟩
  · rw [← r]
    unfold res_main_v170 res_main_v160 sinP
    clean_types
    pointwise
  · rw [← r]
    unfold res_main_v184 res_main_v171 cosP
    clean_types
    pointwise
  · unfold res_main_v186 quarter
    rw [← t]
    clean_types
    pointwise
    try rfl

end Cert.RefEmb

end
-- ==== Proof.RefOut.lean ====
module

public import proofs.«01_k».proof.Proof.RefEmb
public import proofs.«01_k».proof.Proof.Near

@[expose] public section

set_option maxRecDepth 16384

noncomputable section

/-! # The reference's result -/

namespace Cert.RefOut

open Idealize.ShloMosaic Idealize.ShloMosaic.TcCoe Idealize.SL.Sem Idealize.ShloMosaic.StableHlo
open Cert.ReferenceIdeal Cert.ReferenceIdeal.Gen Cert.ReferenceIdeal.Value
open Cert.Maths Cert.Nearest Cert.Spec Cert.RefNear

/-- A sum over the interleaved columns is the sum over the even ones and that over the odd ones. -/
theorem sum_interleaved (F : Fin 256 → EReal) :
    ∑ q, F q = ∑ f : Fin 128, F ⟨2 * f.val, by omega⟩ + ∑ f : Fin 128, F ⟨1 + 2 * f.val, by omega⟩ := by
  rw [show (∑ q, F q) = ∑ f : Fin 128, ∑ t : Fin 2, F ⟨f.val * 2 + t.val, by omega⟩ from Fin.sum_univ_tiles 128 2 rfl F,
    ← Finset.sum_add_distrib]
  refine Finset.sum_congr rfl fun f _ => ?_
  rw [Fin.sum_univ_two]
  exact congrArg₂ (· + ·) (congrArg F (Fin.ext (Nat.mul_comm _ _)))
    (congrArg F (Fin.ext ((Nat.add_comm _ _).trans (congrArg (1 + ·) (Nat.mul_comm _ _)))))

/-- The pieces of an even and of an odd column. -/
theorem columns (f : Fin 128) : 2 * f.val % 2 < 1 ∧ ¬ (1 + 2 * f.val) % 2 < 1 ∧ 2 * f.val / 2 = f.val ∧ (1 + 2 * f.val) / 2 = f.val
    ∧ 2 * f.val % 2 = 0 ∧ (1 + 2 * f.val) % 2 - 1 = 0 := by
  omega

/-- One of four values in every place, by a quarter. -/
def quarterV {S : Shape} (q z0 z1 z2 : IVec S 32) (a0 a1 a2 a3 : FVec Ideal S .f32) : FVec Ideal S .f32 :=
  select (cmpi .eq q z0) a0 (select (cmpi .eq q z1) a1 (select (cmpi .eq q z2) a2 a3))

/-- The projection of the interleaved sines and cosines of all pairs, biased. -/
def projD (s c : FVec Ideal S65536x128x1 .f32) (W : FVec Ideal S256x256 .f32) (b : FVec Ideal S256 .f32) :
    FVec Ideal S1x256x256x256 .f32 :=
  addf (Host.dotGeneral dot_S1x256x256x256_S256x256_S1x256x256x256_3_0_012_1_n_n none
    (shapeCast _ (concatenate S65536x128x2 2 [⟨S65536x128x1, s⟩, ⟨S65536x128x1, c⟩]
      concatenates_S65536x128x1_S65536x128x1_S65536x128x2_d2) shapeCasts_S65536x128x2_S1x256x256x256)
    (transpose S256x256 [1, 0] W transposes_S256x256_S256x256_1_0))
    (broadcastInDim S1x256x256x256 ![0, 1, 2, 3] bcast_S1x1x1x256_S1x256x256x256_0_1_2_3
      (broadcastInDim S1x1x1x256 ![3] bcast_S256_S1x1x1x256_3 b))

/-- … read at an index. -/
theorem projD_at (s c : FVec Ideal S65536x128x1 .f32) (W : FVec Ideal S256x256 .f32) (b : FVec Ideal S256 .f32) (i j o : Fin 256) :
    projD s c W b (ix4 0 i j o)
      = (∑ f : Fin 128, s (ix3 ⟨i.val * 256 + j.val, by omega⟩ f 0) * W (ix2 o ⟨2 * f.val, by omega⟩)
        + ∑ f : Fin 128, c (ix3 ⟨i.val * 256 + j.val, by omega⟩ f 0) * W (ix2 o ⟨1 + 2 * f.val, by omega⟩)) + b (ix1 o) := by
  pointwise [projD]
  rw [sum_interleaved]
  simp only [columns, dif_pos, dif_neg, not_false_eq_true]
  rfl

/-- The projection of the interleaved sines and cosines of all pairs and neighbours, biased. -/
def projA (s c : FVec Ideal S196608x128x1 .f32) (W : FVec Ideal S256x256 .f32) (b : FVec Ideal S256 .f32) :
    FVec Ideal S1x256x256x3x256 .f32 :=
  addf (Host.dotGeneral dot_S1x256x256x3x256_S256x256_S1x256x256x3x256_4_0_0123_1_n_n none
    (shapeCast _ (concatenate S196608x128x2 2 [⟨S196608x128x1, s⟩, ⟨S196608x128x1, c⟩]
      concatenates_S196608x128x1_S196608x128x1_S196608x128x2_d2) shapeCasts_S196608x128x2_S1x256x256x3x256)
    (transpose S256x256 [1, 0] W transposes_S256x256_S256x256_1_0))
    (broadcastInDim S1x256x256x3x256 ![0, 1, 2, 3, 4] bcast_S1x1x1x1x256_S1x256x256x3x256_0_1_2_3_4
      (broadcastInDim S1x1x1x1x256 ![4] bcast_S256_S1x1x1x1x256_4 b))

/-- … read at an index. -/
theorem projA_at (s c : FVec Ideal S196608x128x1 .f32) (W : FVec Ideal S256x256 .f32) (b : FVec Ideal S256 .f32) (i j o : Fin 256)
    (k : Fin 3) :
    projA s c W b (ix5 0 i j k o)
      = (∑ f : Fin 128, s (ix3 ⟨i.val * 768 + j.val * 3 + k.val, by omega⟩ f 0) * W (ix2 o ⟨2 * f.val, by omega⟩)
        + ∑ f : Fin 128, c (ix3 ⟨i.val * 768 + j.val * 3 + k.val, by omega⟩ f 0) * W (ix2 o ⟨1 + 2 * f.val, by omega⟩)) + b (ix1 o) := by
  pointwise [projA]
  rw [sum_interleaved]
  simp only [columns, dif_pos, dif_neg, not_false_eq_true]
  rfl

/-- The greatest of the three neighbours' entries. -/
theorem maxA_at (x : FVec Ideal S1x256x256x3x256 .f32) (i j o : Fin 256) :
    Host.reduce FloatOps.maximumf x (constant S_ .f32 0xFF800000#32) reducesTo_S1x256x256x3x256_S1x256x256x256_d3 h_S_ (ix4 0 i j o)
      = max (max (x (ix5 0 i j 0 o)) (x (ix5 0 i j 1 o))) (x (ix5 0 i j 2 o)) := by
  pointwise
  rw [show (Finset.univ : Finset (Fin 3)) = {0, 1, 2} from rfl, Near.ofBits_least]
  simp [max_assoc]

/-- The sines: by the quarter, one of the two polynomials or its negation. -/
def sinesV {S : Shape} (h : S_.BroadcastsInDim S ![]) (q : IVec S 32) (s c : FVec Ideal S .f32) : FVec Ideal S .f32 :=
  quarterV q (broadcastInDim S ![] h (constantI S_ 32 0#32)) (broadcastInDim S ![] h (constantI S_ 32 1#32))
    (broadcastInDim S ![] h (constantI S_ 32 2#32)) s c (Host.negf s) (Host.negf c)

/-- The cosines: by the quarter, one of the two polynomials or its negation. -/
def cosinesV {S : Shape} (h : S_.BroadcastsInDim S ![]) (q : IVec S 32) (s c : FVec Ideal S .f32) : FVec Ideal S .f32 :=
  quarterV q (broadcastInDim S ![] h (constantI S_ 32 0#32)) (broadcastInDim S ![] h (constantI S_ 32 1#32))
    (broadcastInDim S ![] h (constantI S_ 32 2#32)) c (Host.negf s) (Host.negf c) s

/-- The sines and cosines at an index whose phase is `u`. -/
theorem sines_at {S : Shape} (h : S_.BroadcastsInDim S ![]) (q : IVec S 32) (s c : FVec Ideal S .f32) (y : S.Idx) (u : EReal)
    (hp : s y = sinP (remd u) ∧ c y = cosP (remd u) ∧ q y = IntOp.andi (quarter u) 3#32) :
    sinesV h q s c y = sine u ∧ cosinesV h q s c y = cosine u := by
  unfold sine cosine byQuarter
  rw [← hp.1, ← hp.2.1, ← hp.2.2]
  exact ⟨rfl, rfl⟩

/-- An index's projection, the phase with the table's entry on the right. -/
theorem project_comm (div : Fin 128 → EReal) (w : Fin 256 → EReal) (x : EReal) :
    ∑ f : Fin 128, sine (x * div f) * w ⟨2 * f.val, by omega⟩ + ∑ f : Fin 128, cosine (x * div f) * w ⟨1 + 2 * f.val, by omega⟩
      = project sine cosine div w x := by
  unfold project emb
  simp only [mul_comm x]

/-- The table of frequencies. -/
abbrev table (f : Fin 128) : EReal := Ideal.ofBits .f32 (lit0 (S128.rowMajor (ix1 f)))

/-- The two literal tables are one. -/
theorem lit_eq : lit1 = lit0 := rfl

/-- The distance part at an index, its phases given. -/
theorem projD_of (q : IVec S65536x128x1 32) (s c : FVec Ideal S65536x128x1 .f32) (W : FVec Ideal S256x256 .f32)
    (b : FVec Ideal S256 .f32) (i j o : Fin 256) (x : EReal) (div : Fin 128 → EReal)
    (hp : ∀ f, s (ix3 ⟨i.val * 256 + j.val, by omega⟩ f 0) = sinP (remd (x * div f))
      ∧ c (ix3 ⟨i.val * 256 + j.val, by omega⟩ f 0) = cosP (remd (x * div f))
      ∧ q (ix3 ⟨i.val * 256 + j.val, by omega⟩ f 0) = IntOp.andi (quarter (x * div f)) 3#32) :
    projD (sinesV bcast_S_S65536x128x1 q s c) (cosinesV bcast_S_S65536x128x1 q s c) W b (ix4 0 i j o)
      = project sine cosine div (fun q => W (ix2 o q)) x + b (ix1 o) := by
  rw [projD_at, ← project_comm]
  simp only [fun f => (sines_at bcast_S_S65536x128x1 q s c _ _ (hp f)).1, fun f => (sines_at bcast_S_S65536x128x1 q s c _ _ (hp f)).2]

/-- The angle part at an index, its phases given. -/
theorem projA_of (q : IVec S196608x128x1 32) (s c : FVec Ideal S196608x128x1 .f32) (W : FVec Ideal S256x256 .f32)
    (b : FVec Ideal S256 .f32) (i j o : Fin 256) (k : Fin 3) (x : EReal) (div : Fin 128 → EReal)
    (hp : ∀ f, s (ix3 ⟨i.val * 768 + j.val * 3 + k.val, by omega⟩ f 0) = sinP (remd (x * div f))
      ∧ c (ix3 ⟨i.val * 768 + j.val * 3 + k.val, by omega⟩ f 0) = cosP (remd (x * div f))
      ∧ q (ix3 ⟨i.val * 768 + j.val * 3 + k.val, by omega⟩ f 0) = IntOp.andi (quarter (x * div f)) 3#32) :
    projA (sinesV bcast_S_S196608x128x1 q s c) (cosinesV bcast_S_S196608x128x1 q s c) W b (ix5 0 i j k o)
      = project sine cosine div (fun q => W (ix2 o q)) x + b (ix1 o) := by
  rw [projA_at, ← project_comm]
  simp only [fun f => (sines_at bcast_S_S196608x128x1 q s c _ _ (hp f)).1, fun f => (sines_at bcast_S_S196608x128x1 q s c _ _ (hp f)).2]

variable (V : Valuation τ sig (Elt Ideal))

/-- The reference's result, in terms of the named arrays. -/
def refOut : FVec Ideal S1x256x256x256 .f32 :=
  addf (projD (sinesV bcast_S_S65536x128x1 (res_main_v118 V) (res_main_v102 V) (res_main_v116 V))
      (cosinesV bcast_S_S65536x128x1 (res_main_v118 V) (res_main_v102 V) (res_main_v116 V))
      (V (Proc.devRef .tc main_arg1)) (V (Proc.devRef .tc main_arg2)))
    (Host.reduce FloatOps.maximumf
      (projA (sinesV bcast_S_S196608x128x1 (res_main_v186 V) (res_main_v170 V) (res_main_v184 V))
        (cosinesV bcast_S_S196608x128x1 (res_main_v186 V) (res_main_v170 V) (res_main_v184 V))
        (V (Proc.devRef .tc main_arg3)) (V (Proc.devRef .tc main_arg4)))
      (constant S_ .f32 0xFF800000#32) reducesTo_S1x256x256x3x256_S1x256x256x256_d3 h_S_)

/-- It is what the last operation writes. -/
theorem refOut_eq : val5 V (Proc.devRef .tc main_v217) = refOut V := val5_main_v217 V

/-- The reference's result at an index. -/
theorem refOut_at (i j o : Fin 256) (hg : ∀ j, -distance (pts V) i j ≠ ⊥) :
    refOut V (ix4 0 i j o)
      = result sine cosine (pts V) table (fun q => V (Proc.devRef .tc main_arg1) (ix2 o q)) (fun q => V (Proc.devRef .tc main_arg3) (ix2 o q))
          (V (Proc.devRef .tc main_arg2) (ix1 o)) (V (Proc.devRef .tc main_arg4) (ix1 o)) i j := by
  have d := projD_of (res_main_v118 V) (res_main_v102 V) (res_main_v116 V) (V (Proc.devRef .tc main_arg1))
    (V (Proc.devRef .tc main_arg2)) i j o (distIndex (pts V) i j) table
    fun f => RefEmb.parts_d V _ _ (RefEmb.phase_ref V i j f)
  have a (k : Fin 3) := projA_of (res_main_v186 V) (res_main_v170 V) (res_main_v184 V) (V (Proc.devRef .tc main_arg3))
    (V (Proc.devRef .tc main_arg4)) i j o k (angleIndex (pts V) i j k) table
    fun f => RefEmb.parts_a V _ _ ((RefAngle.phase_ref V i j k f hg).trans (by rw [lit_eq]))
  unfold refOut result
  refine congrArg₂ (· + ·) d ((maxA_at _ i j o).trans ?_)
  rw [a, a, a, max_add_add_right, max_add_add_right]

end Cert.RefOut

end
-- ==== Proof.First2.lean ====
module

public import proofs.«01_k».proof.Proof.Gen.Kernel2Ideal.Frame
public import proofs.«01_k».proof.Proof.Call1

@[expose] public section

set_option maxRecDepth 16384

noncomputable section

/-! # What the second program's first call leaves: its body is the first program's -/

namespace Cert.First2

open Idealize.ShloMosaic Idealize.ShloMosaic.TcCoe Cert.Kernel2Ideal Cert.Kernel2Ideal.Gen Cert.Nearest Cert.Near

/-- The distances are the first program's. -/
theorem same_dist (x : FVec Ideal S256x8 .f32) : k0_pay2 (F := Ideal) x = Cert.KernelIdeal.Gen.k0_pay2 (F := Ideal) x := rfl

/-- What is left after the first round. -/
theorem stage_one (x : FVec Ideal S256x8 .f32) : k0_pay3 (F := Ideal) x = leftV (negV (Cert.KernelIdeal.Gen.k0_pay2 x)) 1 := rfl

/-- The picks of the second round. -/
theorem stage_pick (x : FVec Ideal S256x8 .f32) : k0_pay4 (F := Ideal) x = firstV (k0_pay3 x) := rfl

/-- The stored rows of a round, from its picks. -/
theorem stage_hot (s : IVec S256x1 32) :
    k0_pay5 (F := Ideal) Call1.posV s = shapeCast S1x256x256 (hotV s) shapeCasts_S256x256_S1x256x256 := rfl

/-- The stored rows of the next round. -/
theorem stage_next (g : FVec Ideal S256x256 .f32) (s : IVec S256x1 32) :
    k0_pay8 (F := Ideal) Call1.posV g s = shapeCast S1x256x256 (hotV (firstV (dropV g s))) shapeCasts_S256x256_S1x256x256 := rfl

/-- The stored rows of the round after that. -/
theorem stage_last (g : FVec Ideal S256x256 .f32) (s : IVec S256x1 32) :
    k0_pay1 (k0_pay9 (F := Ideal) Call1.posV g s) = shapeCast S1x256x256
      (hotV (firstV (dropV (dropV g s) (firstV (dropV g s))))) shapeCasts_S256x256_S1x256x256 := rfl

variable (V : (c : Dev nD) → (b : Ref sig .tc) → Buf (Elt Ideal) ((c : Thread nD τ).loc b))

/-- The call's only grid point reads block zero. -/
theorem idx : ∀ t : Fin cfg0.N, win0_0.index t = ![0, 0] := (by decide +kernel : ∀ t : Fin grid0.N, _)

/-- The call reads its whole operand. -/
theorem operand (c : Dev nD) (t : Fin cfg0.N) : (iblk0 V c 0 t : FVec Ideal S256x8 .f32) = V c main_v3 := by
  funext y
  blk_ext [iblk0, idx t]

/-- The first result of the call is the array of distances. -/
theorem dist_arr (c : Dev nD) (i j : Fin 256) :
    (dat0 V c).arrAt 1 cfg0.N (ix2 i j) = Cert.KernelIdeal.Gen.k0_pay2 (F := Ideal) (V c main_v3) (ix2 i j) := by
  suffices h : (dat0 V c).arrAt 1 cfg0.N = k0_pay2 (F := Ideal) (V c main_v3) from (congrFun h _).trans (congrFun (same_dist _) _)
  refine (dat0 V c).arrAt_eq_of_after_last 1 t0_0 (by decide +kernel) _ fun y => ?_
  blk_simp
  rw [after0_1]
  frame_out
  rw [operand]

/-- The second result of the call is the three rounds' one-hot rows. -/
theorem hot_arr (c : Dev nD) (k : Fin 3) (i j : Fin 256) :
    @Eq EReal ((dat0 V c).arrAt 2 cfg0.N (ix3 k i j))
      (if j = nth (fun j => -Cert.KernelIdeal.Gen.k0_pay2 (F := Ideal) (V c main_v3) (ix2 i j)) (k.val + 1) then 1 else 0) := by
  suffices h : (dat0 V c).arrAt 2 cfg0.N
      = fun y : S3x256x256.Idx => Call1.storedV (V c main_v3) ((y 0).val + 1) (ix3 0 (y 1) (y 2)) from
    (congrFun h _).trans (Call1.storedV_at _ _ _ _ _)
  refine (dat0 V c).arrAt_eq_of_after_last 2 t0_0 (by decide +kernel) _ fun y => ?_
  blk_simp
  rw [after0_2]
  frame_out
  rw [operand]
  generalize V c main_v3 = v
  have e10 : k0_pay10 (F := Ideal) v = Call1.posV := rfl
  have e11 : k0_pay11 (F := Ideal) v = k0_pay3 v := by unfold k0_pay11; frame_out
  have e12 : k0_pay12 (F := Ideal) v = firstV (k0_pay3 v) := by unfold k0_pay12; frame_out; exact stage_pick v
  rw [e10, e11, e12, stage_hot, stage_next, stage_last, stage_one]
  have piece (k : ℕ) (x : S1x256x256.Idx) (h0 : (y 0 : ℕ) = k + (x 0 : ℕ)) (h1 : (y 1 : ℕ) = x 1) (h2 : (y 2 : ℕ) = x 2) :
      Call1.storedV v (k + 1) x = Call1.storedV v ((y 0).val + 1) (ix3 0 (y 1) (y 2)) := by
    idx_vars x
    obtain rfl : x0 = 0 := Subsingleton.elim _ _
    obtain rfl : y 1 = x1 := Fin.ext h1
    obtain rfl : y 2 = x2 := Fin.ext h2
    rw [h0]
    rfl
  canon_tiles x h
  · exact piece 2 x h0 h1 h2
  · exact piece 1 x h0 h1 h2
  · exact piece 0 x (h0.trans (Nat.zero_add _).symm) h1 h2

end Cert.First2

end
-- ==== Proof.Body2.lean ====
module

public import proofs.«01_k».proof.Proof.Gen.Kernel2Ideal.Frame
public import Idealize.ShloMosaic.Lib.Pipeline.ValueKit
public import Idealize.ShloMosaic.Lib.Pointwise
public import proofs.«01_k».proof.Proof.Maths

@[expose] public section

set_option maxRecDepth 16384

noncomputable section

/-! # The second program's second call: its arrays, as functions of whole arrays -/

namespace Cert.Body2

open Idealize.ShloMosaic Idealize.ShloMosaic.TcCoe Cert.Kernel2Ideal Cert.Kernel2Ideal.Gen Cert.Maths

/-! ## Phases: one piece per row of the block, one below the other -/

/-- A block's column can be taken out of it. -/
theorem cols (n : Fin 8) : S256x8.Slices ![0, n.val] S256x1 := by revert n; decide

/-- One row's indices, standing as a column of the block. -/
def colV (x : FVec Ideal S256x8 .f32) (n : Fin 8) : FVec Ideal S256x1 .f32 := extractStridedSlice S256x1 ![0, n.val] x (cols n)

/-- One row's phases: each index of the row times each frequency. -/
def pieceV (tab : FVec Ideal S1x128 .f32) (x : FVec Ideal S256x1 .f32) : FVec Ideal S256x128 .f32 :=
  mulf (broadcastTo S256x128 x broadcasts_S256x1_S256x128) (broadcastTo S256x128 tab broadcasts_S1x128_S256x128)

/-- One row's phases at an index. -/
theorem pieceV_at (tab : FVec Ideal S1x128 .f32) (x : FVec Ideal S256x8 .f32) (n : Fin 8) (j : Fin 256) (f : Fin 128) :
    pieceV tab (colV x n) (ix2 j f) = x (ix2 j n) * tab (ix2 0 f) := by
  have hc : colV x n (ix2 j 0) = x (ix2 j n) := by
    unfold colV extractStridedSlice
    refine congrArg x (funext fun a => ?_)
    match a with
    | 0 => exact Fin.ext (Nat.zero_add _)
    | 1 => exact Fin.ext (Nat.add_zero _)
  generalize colV x n = y at hc ⊢
  pointwise [pieceV]
  rw [hc]

/-- The phases of one index array, its eight rows one below the other. -/
def phasesD (tab : FVec Ideal S1x128 .f32) (x : FVec Ideal S256x8 .f32) : FVec Ideal S2048x128 .f32 :=
  concatenate S2048x128 0 (List.ofFn fun n : Fin 8 => ⟨S256x128, pieceV tab (colV x n)⟩)
    concatenates_S256x128_S256x128_S256x128_S256x128_S256x128_S256x128_S256x128_S256x128_S2048x128_d0

/-- They at an index. -/
theorem phasesD_at (tab : FVec Ideal S1x128 .f32) (x : FVec Ideal S256x8 .f32) (n : Fin 8) (j : Fin 256) (f : Fin 128) :
    phasesD tab x (ix2 ⟨n.val * 256 + j.val, by omega⟩ f) = x (ix2 j n) * tab (ix2 0 f) := by
  rw [← pieceV_at]
  refine concatenate_ofFn_apply (t := S2048x128) 0 (fun n : Fin 8 => pieceV tab (colV x n)) _ rfl 256 rfl _ n ?_ (ix2 j f) ?_ fun b hb => ?_
  · show (n.val * 256 + j.val) / 256 = n.val
    omega
  · show j.val = (n.val * 256 + j.val) % 256
    omega
  · match b with
    | 0 => exact absurd rfl hb
    | 1 => rfl

/-- The phases of three index arrays, the rows of each one below the other, the arrays one below the other. -/
def phasesA (tab : FVec Ideal S1x128 .f32) (x : Fin 3 → FVec Ideal S256x8 .f32) : FVec Ideal S6144x128 .f32 :=
  concatenate S6144x128 0
    (List.ofFn fun q : Fin 24 => ⟨S256x128, pieceV tab (colV (x ⟨q.val / 8, by omega⟩) ⟨q.val % 8, by omega⟩)⟩)
    concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S6144x128_d0

/-- They at an index. -/
theorem phasesA_at (tab : FVec Ideal S1x128 .f32) (x : Fin 3 → FVec Ideal S256x8 .f32) (k : Fin 3) (n : Fin 8) (j : Fin 256)
    (f : Fin 128) :
    phasesA tab x (ix2 ⟨k.val * 2048 + (n.val * 256 + j.val), by omega⟩ f) = x k (ix2 j n) * tab (ix2 0 f) := by
  rw [← pieceV_at]
  have hq : k.val * 8 + n.val < 24 := by omega
  have e : pieceV tab (colV (x k) n) = (fun q : Fin 24 => pieceV tab (colV (x ⟨q.val / 8, by omega⟩) ⟨q.val % 8, by omega⟩))
      ⟨k.val * 8 + n.val, hq⟩ := by
    have e1 : (⟨(k.val * 8 + n.val) / 8, by omega⟩ : Fin 3) = k := Fin.ext (by dsimp only; omega)
    have e2 : (⟨(k.val * 8 + n.val) % 8, by omega⟩ : Fin 8) = n := Fin.ext (by dsimp only; omega)
    show _ = pieceV tab (colV (x ⟨(k.val * 8 + n.val) / 8, _⟩) ⟨(k.val * 8 + n.val) % 8, _⟩)
    rw [e1, e2]
  rw [e]
  refine concatenate_ofFn_apply (t := S6144x128) 0 (fun q : Fin 24 => pieceV tab (colV (x ⟨q.val / 8, by omega⟩) ⟨q.val % 8, by omega⟩)) _ rfl 256 rfl _
    ⟨k.val * 8 + n.val, hq⟩ ?_ (ix2 j f) ?_ fun b hb => ?_
  · show (k.val * 2048 + (n.val * 256 + j.val)) / 256 = k.val * 8 + n.val
    omega
  · show j.val = (k.val * 2048 + (n.val * 256 + j.val)) % 256
    omega
  · match b with
    | 0 => exact absurd rfl hb
    | 1 => rfl

/-! ## Projections -/

/-- The sines beside the cosines. -/
def sincosD (u : FVec Ideal S2048x128 .f32) : FVec Ideal S2048x256 .f32 :=
  concatenate S2048x256 1 [⟨S2048x128, sin u⟩, ⟨S2048x128, cos u⟩] concatenates_S2048x128_S2048x128_S2048x256_d1

/-- Their projection by a weight whose sine columns stand before its cosine columns. -/
def embD (u : FVec Ideal S2048x128 .f32) (w : FVec Ideal S256x256 .f32) : FVec Ideal S2048x256 .f32 :=
  matmul dot_S2048x256_S256x256_S2048x256_1_1_0_0_n_n none (sincosD u) (shapeCast S256x256 w shapeCasts_S256x256_S256x256)
    (constant S2048x256 .f32 0x00000000#32)

/-- The sines beside the cosines. -/
def sincosA (u : FVec Ideal S6144x128 .f32) : FVec Ideal S6144x256 .f32 :=
  concatenate S6144x256 1 [⟨S6144x128, sin u⟩, ⟨S6144x128, cos u⟩] concatenates_S6144x128_S6144x128_S6144x256_d1

/-- Their projection. -/
def embA (u : FVec Ideal S6144x128 .f32) (w : FVec Ideal S256x256 .f32) : FVec Ideal S6144x256 .f32 :=
  matmul dot_S6144x256_S256x256_S6144x256_1_1_0_0_n_n none (sincosA u) (shapeCast S256x256 w shapeCasts_S256x256_S256x256)
    (constant S6144x256 .f32 0x00000000#32)

/-- A weight's sine column. -/
abbrev lo (f : Fin 128) : Fin 256 := ⟨f.val, by omega⟩
/-- A weight's cosine column. -/
abbrev hi (f : Fin 128) : Fin 256 := ⟨128 + f.val, by omega⟩

/-- The projection at an index. -/
theorem embD_at (u : FVec Ideal S2048x128 .f32) (w : FVec Ideal S256x256 .f32) (p : Fin 2048) (o : Fin 256) :
    embD u w (ix2 p o)
      = ∑ f : Fin 128, Ideal.sin (u (ix2 p f)) * w (ix2 o (lo f)) + ∑ f : Fin 128, Ideal.cos (u (ix2 p f)) * w (ix2 o (hi f)) := by
  pointwise [embD, sincosD]

/-- The projection at an index. -/
theorem embA_at (u : FVec Ideal S6144x128 .f32) (w : FVec Ideal S256x256 .f32) (p : Fin 6144) (o : Fin 256) :
    embA u w (ix2 p o)
      = ∑ f : Fin 128, Ideal.sin (u (ix2 p f)) * w (ix2 o (lo f)) + ∑ f : Fin 128, Ideal.cos (u (ix2 p f)) * w (ix2 o (hi f)) := by
  pointwise [embA, sincosA]

/-- The two projections of a block put together. -/
def joinV (vd va : FVec Ideal S1x256 .f32) (d : FVec Ideal S2048x256 .f32) (a : FVec Ideal S6144x256 .f32) :
    FVec Ideal S1x8x256x256 .f32 :=
  shapeCast S1x8x256x256
    (addf (addf d (broadcastTo S2048x256 vd broadcasts_S1x256_S2048x256))
      (addf (maximumf (maximumf (extractStridedSlice S2048x256 ![0, 0] a slices_S6144x256_o0_0_S2048x256)
          (extractStridedSlice S2048x256 ![2048, 0] a slices_S6144x256_o2048_0_S2048x256))
          (extractStridedSlice S2048x256 ![4096, 0] a slices_S6144x256_o4096_0_S2048x256))
        (broadcastTo S2048x256 va broadcasts_S1x256_S2048x256)))
    shapeCasts_S2048x256_S1x8x256x256

/-- It at an index. -/
theorem joinV_at (vd va : FVec Ideal S1x256 .f32) (d : FVec Ideal S2048x256 .f32) (a : FVec Ideal S6144x256 .f32) (n : Fin 8)
    (j o : Fin 256) :
    joinV vd va d a (ix4 0 n j o)
      = (d (ix2 ⟨n.val * 256 + j.val, by omega⟩ o) + vd (ix2 0 o))
        + (max (max (a (ix2 ⟨n.val * 256 + j.val, by omega⟩ o)) (a (ix2 ⟨2048 + (n.val * 256 + j.val), by omega⟩ o)))
            (a (ix2 ⟨4096 + (n.val * 256 + j.val), by omega⟩ o)) + va (ix2 0 o)) := by
  pointwise [joinV]

/-- What a block's index arrays become. -/
def bodyV (tab : FVec Ideal S1x128 .f32) (vd va : FVec Ideal S1x256 .f32) (wd wa : FVec Ideal S256x256 .f32)
    (d : FVec Ideal S256x8 .f32) (a : Fin 3 → FVec Ideal S256x8 .f32) : FVec Ideal S1x8x256x256 .f32 :=
  joinV vd va (embD (phasesD tab d) wd) (embA (phasesA tab a) wa)

/-- It at an index: one index's share of the result, with the sine and the cosine themselves. -/
theorem bodyV_at (tab : FVec Ideal S1x128 .f32) (vd va : FVec Ideal S1x256 .f32) (wd wa : FVec Ideal S256x256 .f32)
    (d : FVec Ideal S256x8 .f32) (a : Fin 3 → FVec Ideal S256x8 .f32) (n : Fin 8) (j o : Fin 256) :
    bodyV tab vd va wd wa d a (ix4 0 n j o)
      = cell Ideal.sin Ideal.cos (fun f => tab (ix2 0 f)) (vd (ix2 0 o)) (va (ix2 0 o)) (fun f => wd (ix2 o (lo f)))
          (fun f => wd (ix2 o (hi f))) (fun f => wa (ix2 o (lo f))) (fun f => wa (ix2 o (hi f))) (d (ix2 j n)) (a 0 (ix2 j n))
          (a 1 (ix2 j n)) (a 2 (ix2 j n)) := by
  have hd := embD_at (phasesD tab d) wd ⟨n.val * 256 + j.val, by omega⟩ o
  have ha (k : Fin 3) := embA_at (phasesA tab a) wa ⟨k.val * 2048 + (n.val * 256 + j.val), by omega⟩ o
  simp only [phasesD_at] at hd
  simp only [phasesA_at] at ha
  have h0 := ha 0
  rw [show (⟨(0 : Fin 3).val * 2048 + (n.val * 256 + j.val), by omega⟩ : Fin 6144) = ⟨n.val * 256 + j.val, by omega⟩ from
    Fin.ext (Nat.zero_add _)] at h0
  unfold bodyV
  rw [joinV_at, hd]
  refine (congrArg (fun q => _ + (max (max q _) _ + _)) h0).trans ?_
  refine (congrArg (fun q => _ + (max (max _ q) _ + _)) (ha 1)).trans ?_
  refine (congrArg (fun q => _ + (max (max _ _) q + _)) (ha 2)).trans ?_
  unfold cell emb
  simp only [fun (f : Fin 128) (x : EReal) => mul_comm (tab (ix2 0 f)) x]

/-! ## Angles -/

/-- A neighbour's coordinate relative to each row's own point. -/
def relV (mask : FVec Ideal S256x8 .f32) (ccol : FVec Ideal S256x1 .f32) (pir : FVec Ideal S1x8 .f32) : FVec Ideal S1x8 .f32 :=
  subf (shapeCast S1x8 (multiReduction .add [0] S8 (mulf mask (broadcastTo S256x8 ccol broadcasts_S256x1_S256x8))
    0x00000000#32 reduces_S256x8_S8 (.inl rfl) rfl) shapeCasts_S8_S1x8) pir

/-- The angle indices of one neighbour, from its relative coordinates and the points' relative coordinates. -/
def angV (r0 r1 r2 : FVec Ideal S1x8 .f32) (a0 a1 a2 : FVec Ideal S256x8 .f32) : FVec Ideal S256x8 .f32 :=
  let b (x : FVec Ideal S1x8 .f32) : FVec Ideal S256x8 .f32 := broadcastTo S256x8 x broadcasts_S1x8_S256x8
  let c1 : FVec Ideal S256x8 .f32 := subf (mulf (b r1) a2) (mulf (b r2) a1)
  let c2 : FVec Ideal S256x8 .f32 := subf (mulf (b r2) a0) (mulf (b r0) a2)
  let c3 : FVec Ideal S256x8 .f32 := subf (mulf (b r0) a1) (mulf (b r1) a0)
  mulf (atan2 (sqrt (addf (addf (mulf c1 c1) (mulf c2 c2)) (mulf c3 c3)))
      (addf (addf (mulf (b r0) a0) (mulf (b r1) a1)) (mulf (b r2) a2)))
    (broadcast S256x8 (Scalar.ofBits .f32 0x40747645#32))

/-- The whole angle array of one neighbour, from the block's operands. -/
def neighbourV (x0 : FVec Ideal S256x8 .f32) (x1 : FVec Ideal S1x8x8 .f32) (M : FVec Ideal S1x1x256x8 .f32) : FVec Ideal S256x8 .f32 :=
  angV (relV (shapeCast S256x8 M shapeCasts_S1x1x256x8_S256x8) (k1_pay5 x0) (k1_pay8 x1))
    (relV (shapeCast S256x8 M shapeCasts_S1x1x256x8_S256x8) (k1_pay6 x0) (k1_pay9 x1))
    (relV (shapeCast S256x8 M shapeCasts_S1x1x256x8_S256x8) (k1_pay7 x0) (k1_pay10 x1))
    (k1_pay11 x0 x1) (k1_pay12 x0 x1) (k1_pay13 x0 x1)

/-- The coordinate columns of a point: the first three of the eight padded ones. -/
abbrev col (k : Fin 3) : Fin 8 := Fin.castLE (by decide) k

/-- The angle index of one neighbour at row `n` and point `j` of a block, the neighbour being given by its weights `M`. -/
def blockAngle (x0 : FVec Ideal S256x8 .f32) (x1 : FVec Ideal S1x8x8 .f32) (M : FVec Ideal S1x1x256x8 .f32) (n : Fin 8)
    (j : Fin 256) : EReal :=
  angle (fun k => (∑ x, M (ix4 0 0 x n) * x0 (ix2 x (col k))) - x1 (ix3 0 (col k) n))
    (fun k => x0 (ix2 j (col k)) - x1 (ix3 0 (col k) n))

/-- The relative coordinate at an index. -/
theorem relV_at (M : FVec Ideal S1x1x256x8 .f32) (ccol : FVec Ideal S256x1 .f32) (pir : FVec Ideal S1x8 .f32) (n : Fin 8) :
    relV (shapeCast S256x8 M shapeCasts_S1x1x256x8_S256x8) ccol pir (ix2 0 n)
      = (∑ x, M (ix4 0 0 x n) * ccol (ix2 x 0)) - pir (ix2 0 n) := by
  pointwise [relV]

/-- The columns of the padded coordinates at an index. -/
theorem ccol_at (x0 : FVec Ideal S256x8 .f32) (x : Fin 256) :
    k1_pay5 (F := Ideal) x0 (ix2 x 0) = x0 (ix2 x 0) ∧ k1_pay6 (F := Ideal) x0 (ix2 x 0) = x0 (ix2 x 1)
      ∧ k1_pay7 (F := Ideal) x0 (ix2 x 0) = x0 (ix2 x 2) := by
  refine ⟨?_, ?_, ?_⟩
  · pointwise [k1_pay5, k1_pay2]
  · pointwise [k1_pay6, k1_pay2]
  · pointwise [k1_pay7, k1_pay2]

/-- The rows' own coordinates at an index. -/
theorem pir_at (x1 : FVec Ideal S1x8x8 .f32) (n : Fin 8) :
    k1_pay8 (F := Ideal) x1 (ix2 0 n) = x1 (ix3 0 0 n) ∧ k1_pay9 (F := Ideal) x1 (ix2 0 n) = x1 (ix3 0 1 n)
      ∧ k1_pay10 (F := Ideal) x1 (ix2 0 n) = x1 (ix3 0 2 n) := by
  refine ⟨?_, ?_, ?_⟩
  · pointwise [k1_pay8, k1_pay3]
  · pointwise [k1_pay9, k1_pay3]
  · pointwise [k1_pay10, k1_pay3]

/-- The points' relative coordinates at an index. -/
theorem anc_at (x0 : FVec Ideal S256x8 .f32) (x1 : FVec Ideal S1x8x8 .f32) (j : Fin 256) (n : Fin 8) :
    k1_pay11 (F := Ideal) x0 x1 (ix2 j n) = x0 (ix2 j 0) - x1 (ix3 0 0 n)
      ∧ k1_pay12 (F := Ideal) x0 x1 (ix2 j n) = x0 (ix2 j 1) - x1 (ix3 0 1 n)
      ∧ k1_pay13 (F := Ideal) x0 x1 (ix2 j n) = x0 (ix2 j 2) - x1 (ix3 0 2 n) := by
  refine ⟨?_, ?_, ?_⟩
  · pointwise [k1_pay11, k1_pay5, k1_pay8, k1_pay2, k1_pay3]
  · pointwise [k1_pay12, k1_pay6, k1_pay9, k1_pay2, k1_pay3]
  · pointwise [k1_pay13, k1_pay7, k1_pay10, k1_pay2, k1_pay3]

/-- The angle array of one neighbour at an index. -/
theorem neighbourV_at (x0 : FVec Ideal S256x8 .f32) (x1 : FVec Ideal S1x8x8 .f32) (M : FVec Ideal S1x1x256x8 .f32)
    (n : Fin 8) (j : Fin 256) : neighbourV x0 x1 M (ix2 j n) = blockAngle x0 x1 M n j := by
  have hr0 := relV_at M (k1_pay5 x0) (k1_pay8 x1) n
  have hr1 := relV_at M (k1_pay6 x0) (k1_pay9 x1) n
  have hr2 := relV_at M (k1_pay7 x0) (k1_pay10 x1) n
  simp only [(ccol_at x0 _).1, (ccol_at x0 _).2.1, (ccol_at x0 _).2.2, (pir_at x1 n).1, (pir_at x1 n).2.1, (pir_at x1 n).2.2]
    at hr0 hr1 hr2
  have ha0 := (anc_at x0 x1 j n).1
  have ha1 := (anc_at x0 x1 j n).2.1
  have ha2 := (anc_at x0 x1 j n).2.2
  unfold neighbourV
  generalize relV (shapeCast S256x8 M shapeCasts_S1x1x256x8_S256x8) (k1_pay5 x0) (k1_pay8 x1) = r0 at hr0 ⊢
  generalize relV (shapeCast S256x8 M shapeCasts_S1x1x256x8_S256x8) (k1_pay6 x0) (k1_pay9 x1) = r1 at hr1 ⊢
  generalize relV (shapeCast S256x8 M shapeCasts_S1x1x256x8_S256x8) (k1_pay7 x0) (k1_pay10 x1) = r2 at hr2 ⊢
  generalize k1_pay11 (F := Ideal) x0 x1 = a0 at ha0 ⊢
  generalize k1_pay12 (F := Ideal) x0 x1 = a1 at ha1 ⊢
  generalize k1_pay13 (F := Ideal) x0 x1 = a2 at ha2 ⊢
  pointwise [angV]
  rw [hr0, hr1, hr2, ha0, ha1, ha2]
  rfl

end Cert.Body2

end
-- ==== Proof.Second2.lean ====
module

public import proofs.«01_k».proof.Proof.Body2

@[expose] public section

set_option maxRecDepth 16384

noncomputable section

/-! # What the second program's second call leaves, from the arrays it finds -/

namespace Cert.Second2

open Idealize.ShloMosaic Idealize.ShloMosaic.TcCoe Cert.Kernel2Ideal Cert.Kernel2Ideal.Gen Cert.Maths Cert.Body2

/-! ## The kernel's stages -/

/-- The first neighbour's angle array. -/
theorem stage_angle0 (x0 : FVec Ideal S256x8 .f32) (x1 : FVec Ideal S1x8x8 .f32) (M : FVec Ideal S1x1x256x8 .f32) :
    k1_pay20 (F := Ideal) (k1_pay7 x0) (k1_pay9 x1) (k1_pay10 x1) (k1_pay11 x0 x1) (k1_pay12 x0 x1) (k1_pay13 x0 x1) (k1_pay17 M)
      (k1_pay18 x0 x1 M) (k1_pay19 x0 M) = neighbourV x0 x1 M := rfl

/-- The second neighbour's. -/
theorem stage_angle1 (x0 : FVec Ideal S256x8 .f32) (x1 : FVec Ideal S1x8x8 .f32) (M : FVec Ideal S1x1x256x8 .f32) :
    k1_pay24 (F := Ideal) (k1_pay7 x0) (k1_pay10 x1) (k1_pay11 x0 x1) (k1_pay12 x0 x1) (k1_pay13 x0 x1) (k1_pay21 M)
      (k1_pay22 (k1_pay5 x0) (k1_pay8 x1) M) (k1_pay23 (k1_pay6 x0) (k1_pay9 x1) M) = neighbourV x0 x1 M := rfl

/-- The third neighbour's. -/
theorem stage_angle2 (x0 : FVec Ideal S256x8 .f32) (x1 : FVec Ideal S1x8x8 .f32) (M : FVec Ideal S1x1x256x8 .f32) :
    k1_pay29 (F := Ideal) (k1_pay10 x1) (k1_pay11 x0 x1) (k1_pay12 x0 x1) (k1_pay13 x0 x1)
      (k1_pay26 (k1_pay5 x0) (k1_pay8 x1) M) (k1_pay27 (k1_pay6 x0) (k1_pay9 x1) M) (k1_pay28 (k1_pay7 x0) M) = neighbourV x0 x1 M := rfl

/-- The distances' projection. -/
theorem stage_dist (tab : FVec Ideal S1x128 .f32) (d : FVec Ideal S256x8 .f32) (w : FVec Ideal S256x256 .f32) :
    k1_pay38 (F := Ideal) tab (k1_pay30 d) (k1_pay31 d) (k1_pay32 d tab) (k1_pay33 d tab) (k1_pay34 d tab) (k1_pay35 d tab)
      (k1_pay36 d tab) (k1_pay37 d) w = embD (phasesD tab d) w := rfl

/-- The angles' sines and cosines. -/
theorem stage_angles (tab : FVec Ideal S1x128 .f32) (a0 a1 a2 : FVec Ideal S256x8 .f32) :
    k1_pay63 (F := Ideal) tab (k1_pay39 a0) (k1_pay40 a0) (k1_pay41 a1) (k1_pay42 a1) (k1_pay43 a1) (k1_pay44 a1) (k1_pay45 a1)
      (k1_pay46 a1) (k1_pay47 a1) (k1_pay48 a1) (k1_pay49 a2) (k1_pay50 a2) (k1_pay51 a2) (k1_pay52 a2) (k1_pay53 a2) (k1_pay54 a2)
      (k1_pay55 a2) (k1_pay56 a2) (k1_pay57 tab a0) (k1_pay58 tab a0) (k1_pay59 tab a0) (k1_pay60 tab a0) (k1_pay61 tab a0)
      (k1_pay62 tab a0) = sincosA (phasesA tab ![a0, a1, a2]) := rfl

/-- The result of a block. -/
theorem stage_join (vd va : FVec Ideal S1x256 .f32) (d : FVec Ideal S2048x256 .f32) (u : FVec Ideal S6144x128 .f32)
    (w : FVec Ideal S256x256 .f32) : k1_pay1 (F := Ideal) vd va d (sincosA u) w = joinV vd va d (embA u w) := rfl

/-! ## What a grid point writes -/

/-- One neighbour's weights, out of those of all three. -/
def hotV (x3 : FVec Ideal S1x3x256x8 .f32) (k : Fin 3) : FVec Ideal S1x1x256x8 .f32 := fun i => x3 (ix4 0 k (i 2) (i 3))

/-- What a grid point writes, from its operands. -/
theorem out_eq (x0 : FVec Ideal S256x8 .f32) (x1 : FVec Ideal S1x8x8 .f32) (x2 : FVec Ideal S1x256x8 .f32)
    (x3 : Vec Ideal S1x3x256x8 .f32) (x4 x5 : FVec Ideal S256x256 .f32) (x6 x7 : FVec Ideal S1x256 .f32)
    (x8 : FVec Ideal S1x128 .f32) :
    out1_9 (F := Ideal) x0 x1 x2 x3 x4 x5 x6 x7 x8
      = bodyV (k1_pay14 x8) (k1_pay15 x6) (k1_pay16 x7) x4 x5 (k1_pay4 x2)
          ![neighbourV x0 x1 (hotV x3 0), neighbourV x0 x1 (hotV x3 1), neighbourV x0 x1 (hotV x3 2)] := by
  unfold_out out1_9
  frame_out
  generalize hM0 : View.ld x3 (Rect.unit (s := S1x3x256x8) ![0, 0, 0, 0] S1x1x256x8.size inb_S1x3x256x8_S1x1x256x8_0_0_0_0) = M0
  generalize hM1 : View.ld x3 (Rect.unit (s := S1x3x256x8) ![0, 1, 0, 0] S1x1x256x8.size inb_S1x3x256x8_S1x1x256x8_0_1_0_0) = M1
  generalize hM2 : View.ld x3 (Rect.unit (s := S1x3x256x8) ![0, 2, 0, 0] S1x1x256x8.size inb_S1x3x256x8_S1x1x256x8_0_2_0_0) = M2
  have m0 : M0 = hotV x3 0 := by
    rw [← hM0]
    funext y
    idx_vars y
    obtain rfl : y0 = 0 := Subsingleton.elim _ _
    obtain rfl : y1 = 0 := Subsingleton.elim _ _
    pointwise [hotV]
  have m1 : M1 = hotV x3 1 := by
    rw [← hM1]
    funext y
    idx_vars y
    obtain rfl : y0 = 0 := Subsingleton.elim _ _
    obtain rfl : y1 = 0 := Subsingleton.elim _ _
    pointwise [hotV]
  have m2 : M2 = hotV x3 2 := by
    rw [← hM2]
    funext y
    idx_vars y
    obtain rfl : y0 = 0 := Subsingleton.elim _ _
    obtain rfl : y1 = 0 := Subsingleton.elim _ _
    pointwise [hotV]
  rw [← m0, ← m1, ← m2, stage_angle0, stage_angle1, stage_angle2, stage_dist, stage_angles, stage_join]
  rfl

/-- One index of what a grid point writes, from its operands. -/
theorem out_at (x0 : FVec Ideal S256x8 .f32) (x1 : FVec Ideal S1x8x8 .f32) (x2 : FVec Ideal S1x256x8 .f32)
    (x3 : FVec Ideal S1x3x256x8 .f32) (x4 x5 : FVec Ideal S256x256 .f32) (x6 x7 : FVec Ideal S1x256 .f32)
    (x8 : FVec Ideal S1x128 .f32) (n : Fin 8) (j o : Fin 256) :
    out1_9 (F := Ideal) x0 x1 x2 x3 x4 x5 x6 x7 x8 (ix4 0 n j o)
      = cell Ideal.sin Ideal.cos (fun f => x8 (ix2 0 f)) (x6 (ix2 0 o)) (x7 (ix2 0 o)) (fun f => x4 (ix2 o (lo f)))
          (fun f => x4 (ix2 o (hi f))) (fun f => x5 (ix2 o (lo f))) (fun f => x5 (ix2 o (hi f)))
          (Ideal.div (x2 (ix3 0 j n)) (Ideal.ofBits .f32 0x3E4CCCCD#32)) (blockAngle x0 x1 (hotV x3 0) n j)
          (blockAngle x0 x1 (hotV x3 1) n j) (blockAngle x0 x1 (hotV x3 2) n j) := by
  have e14 : ∀ f : Fin 128, k1_pay14 (F := Ideal) x8 (ix2 0 f) = x8 (ix2 0 f) := fun f => by pointwise [k1_pay14]
  have e15 : k1_pay15 (F := Ideal) x6 (ix2 0 o) = x6 (ix2 0 o) := by pointwise [k1_pay15]
  have e16 : k1_pay16 (F := Ideal) x7 (ix2 0 o) = x7 (ix2 0 o) := by pointwise [k1_pay16]
  have e4 : k1_pay4 (F := Ideal) x2 (ix2 j n) = Ideal.div (x2 (ix3 0 j n)) (Ideal.ofBits .f32 0x3E4CCCCD#32) := by
    pointwise [k1_pay4]
  rw [out_eq]
  refine (bodyV_at _ _ _ _ _ _ _ n j o).trans ?_
  rw [funext e14, e15, e16, e4, ← neighbourV_at, ← neighbourV_at, ← neighbourV_at]
  rfl

/-! ## The whole array -/

variable (V : (c : Dev nD) → (b : Ref sig .tc) → Buf (Elt Ideal) ((c : Thread nD τ).loc b))

/-- The row of the whole array that a grid point's block holds in its row `n`. -/
def prow (t : Fin cfg1.N) (n : Fin 8) : Fin 256 := ⟨8 * t.val + n.val, by have : t.val < 32 := t.isLt; omega⟩

/-- The block each grid point reads and writes of each array. -/
theorem idx : ∀ t : Fin cfg1.N, win1_0.index t = ![0, 0] ∧ win1_1.index t = ![t.val, 0, 0] ∧ win1_2.index t = ![t.val, 0, 0]
    ∧ win1_3.index t = ![t.val, 0, 0, 0] ∧ win1_4.index t = ![0, 0] ∧ win1_5.index t = ![0, 0] ∧ win1_6.index t = ![0, 0]
    ∧ win1_7.index t = ![0, 0] ∧ win1_8.index t = ![0, 0] ∧ win1_9.index t = ![0, t.val, 0, 0] :=
  (by decide +kernel : ∀ t : Fin grid1.N, _)

/-- The operands read whole at every point. -/
theorem wholes (c : Dev nD) (t : Fin cfg1.N) :
    (iblk1 V c 0 t : FVec Ideal S256x8 .f32) = V c main_v3 ∧ (iblk1 V c 4 t : FVec Ideal S256x256 .f32) = V c main_v15
      ∧ (iblk1 V c 5 t : FVec Ideal S256x256 .f32) = V c main_v18 ∧ (iblk1 V c 6 t : FVec Ideal S1x256 .f32) = V c main_v19
      ∧ (iblk1 V c 7 t : FVec Ideal S1x256 .f32) = V c main_v20 ∧ (iblk1 V c 8 t : FVec Ideal S1x128 .f32) = V c main_v21 := by
  refine ⟨?_, ?_, ?_, ?_, ?_, ?_⟩ <;>
  · funext y
    blk_ext [iblk1, idx t]

/-- The rows' own coordinates read at a point. -/
theorem block_points (c : Dev nD) (t : Fin cfg1.N) (k n : Fin 8) :
    @Eq EReal (iblk1 V c 1 t (ix3 0 k n)) (V c main_v12 (ix3 ⟨(prow t n).val / 8, by omega⟩ k ⟨(prow t n).val % 8, by omega⟩)) := by
  unfold prow
  blk_ext [iblk1, idx t]

/-- The distances read at a point: those of its own eight rows. -/
theorem block_dist (c : Dev nD) (t : Fin cfg1.N) (n : Fin 8) (j : Fin 256) :
    @Eq EReal (iblk1 V c 2 t (ix3 0 j n)) (V c main_v7 (ix3 ⟨(prow t n).val / 8, by omega⟩ j ⟨(prow t n).val % 8, by omega⟩)) := by
  unfold prow
  blk_ext [iblk1, idx t]

/-- The neighbours' weights read at a point: those of its own eight rows. -/
theorem block_hot (c : Dev nD) (t : Fin cfg1.N) (k : Fin 3) (n : Fin 8) (x : Fin 256) :
    @Eq EReal (iblk1 V c 3 t (ix4 0 k x n))
      (V c main_v10 (ix4 ⟨(prow t n).val / 8, by omega⟩ k x ⟨(prow t n).val % 8, by omega⟩)) := by
  unfold prow
  blk_ext [iblk1, idx t]

/-- The angle index of one neighbour, from the whole arrays: the padded points `X`, the rows' own coordinates `P`, the
    neighbours' weights `H`. -/
def arrayAngle (X : FVec Ideal S256x8 .f32) (P : FVec Ideal S32x8x8 .f32) (H : FVec Ideal S32x3x256x8 .f32) (k : Fin 3)
    (i j : Fin 256) : EReal :=
  angle
    (fun l => (∑ x, H (ix4 ⟨i.val / 8, by omega⟩ k x ⟨i.val % 8, by omega⟩) * X (ix2 x (col l)))
      - P (ix3 ⟨i.val / 8, by omega⟩ (col l) ⟨i.val % 8, by omega⟩))
    (fun l => X (ix2 j (col l)) - P (ix3 ⟨i.val / 8, by omega⟩ (col l) ⟨i.val % 8, by omega⟩))

/-- A block's angle index is the whole arrays' where their entries are the same. -/
theorem angle_eq (X : FVec Ideal S256x8 .f32) (x1 : FVec Ideal S1x8x8 .f32) (x3 : FVec Ideal S1x3x256x8 .f32)
    (P : FVec Ideal S32x8x8 .f32) (H : FVec Ideal S32x3x256x8 .f32) (k : Fin 3) (n : Fin 8) (i j : Fin 256)
    (hp : ∀ l, x1 (ix3 0 l n) = P (ix3 ⟨i.val / 8, by omega⟩ l ⟨i.val % 8, by omega⟩))
    (hh : ∀ x, x3 (ix4 0 k x n) = H (ix4 ⟨i.val / 8, by omega⟩ k x ⟨i.val % 8, by omega⟩)) :
    blockAngle X x1 (hotV x3 k) n j = arrayAngle X P H k i j := by
  have e : ∀ x, hotV x3 k (ix4 0 0 x n) = x3 (ix4 0 k x n) := fun _ => rfl
  unfold blockAngle arrayAngle
  simp only [e, hp, hh]

/-- The result at an index, from the whole arrays. -/
def arrayCell (X : FVec Ideal S256x8 .f32) (P : FVec Ideal S32x8x8 .f32) (D : FVec Ideal S32x256x8 .f32)
    (H : FVec Ideal S32x3x256x8 .f32) (wd wa : FVec Ideal S256x256 .f32) (bd ba : FVec Ideal S1x256 .f32)
    (div : FVec Ideal S1x128 .f32) (i j o : Fin 256) : EReal :=
  cell Ideal.sin Ideal.cos (fun f => div (ix2 0 f)) (bd (ix2 0 o)) (ba (ix2 0 o)) (fun f => wd (ix2 o (lo f)))
    (fun f => wd (ix2 o (hi f))) (fun f => wa (ix2 o (lo f))) (fun f => wa (ix2 o (hi f)))
    (Ideal.div (D (ix3 ⟨i.val / 8, by omega⟩ j ⟨i.val % 8, by omega⟩)) (Ideal.ofBits .f32 0x3E4CCCCD#32))
    (arrayAngle X P H 0 i j) (arrayAngle X P H 1 i j) (arrayAngle X P H 2 i j)

/-- The result of the second call at an index, from the arrays it finds. -/
def resultAt (c : Dev nD) (i j o : Fin 256) : EReal :=
  arrayCell (V c main_v3) (V c main_v12) (V c main_v7) (V c main_v10) (V c main_v15) (V c main_v18) (V c main_v19) (V c main_v20)
    (V c main_v21) i j o

/-- What a grid point writes, from the whole arrays. -/
theorem point_at (c : Dev nD) (t : Fin cfg1.N) (n : Fin 8) (j o : Fin 256) :
    out1_9 (F := Ideal) (iblk1 V c 0 t) (iblk1 V c 1 t) (iblk1 V c 2 t) (iblk1 V c 3 t) (iblk1 V c 4 t) (iblk1 V c 5 t)
      (iblk1 V c 6 t) (iblk1 V c 7 t) (iblk1 V c 8 t) (ix4 0 n j o) = resultAt V c (prow t n) j o := by
  obtain ⟨e0, e4, e5, e6, e7, e8⟩ := wholes V c t
  refine (out_at _ _ _ _ _ _ _ _ _ n j o).trans ?_
  have ang (k : Fin 3) : blockAngle (iblk1 V c 0 t) (iblk1 V c 1 t) (hotV (iblk1 V c 3 t) k) n j
      = arrayAngle (V c main_v3) (V c main_v12) (V c main_v10) k (prow t n) j := by
    rw [e0]
    exact angle_eq _ _ _ _ _ k n (prow t n) j (fun l => block_points V c t l n) fun x => block_hot V c t k n x
  unfold resultAt arrayCell
  rw [ang, ang, ang, e4, e5, e6, e7, e8, block_dist]

/-- The result of the second call, from the arrays it finds. -/
theorem result_arr (c : Dev nD) :
    (dat1 V c).arrAt 9 cfg1.N = fun y : S1x256x256x256.Idx => resultAt V c (y 1) (y 2) (y 3) := by
  refine (dat1 V c).arrAt_eq_of_covers 9 _ (by decide +kernel) fun t hf y => ?_
  blk_simp
  rw [after1_9]
  idx_vars y
  obtain rfl : y0 = 0 := Subsingleton.elim _ _
  refine (point_at V c t y1 y2 y3).trans ?_
  have key (z : S1x256x256x256.Idx) (hz : z = ix4 0 (prow t y1) y2 y3) :
      resultAt V c (prow t y1) y2 y3 = resultAt V c (z 1) (z 2) (z 3) := by rw [hz]; rfl
  refine key _ ?_
  unfold prow
  blk_ext [idx t]

end Cert.Second2

end
-- ==== Proof.Host2.lean ====
module

public import proofs.«01_k».proof.Proof.Gen.Kernel2Ideal.Frame
public import proofs.«01_k».proof.Proof.Host

@[expose] public section

set_option maxRecDepth 16384

noncomputable section

/-! # The host's operations around the second program's two calls -/

namespace Cert.Host2

open Idealize.ShloMosaic Idealize.ShloMosaic.TcCoe Idealize.SL.Sem Cert.Kernel2Ideal Cert.Kernel2Ideal.Gen Cert.Kernel2Ideal.Facts₀
open Cert.Host (padded)

variable (m : (ℓ : Loc nD τ sig) → Buf (Elt Ideal) ℓ) (ρ : Dev nD → PrngReg)

/-- The padded points the first call finds. -/
theorem points_at (c : Dev nD) (i : Fin 256) (k : Fin 8) :
    @Eq EReal (V1 m ρ c main_v3 (ix2 i k)) (padded (fun i k => m ((c : Thread nD τ).loc main_arg0) (ix3 0 i k)) i k) := by
  show StableHlo.after hostOps0 (W0 m ρ c) (Proc.devRef .tc main_v3) (ix2 i k) = _
  entry_read
  refine (Cert.Host.pad_at _ _ _ (fun y => ?_) (fun y => ?_) i k).trans ?_
  · idx_vars y
    pointwise
  · idx_vars y
    pointwise
  · congr 1
    funext i k
    pointwise

/-- The frequencies the first stretch leaves. -/
theorem table_at (c : Dev nD) (f : Fin 128) :
    @Eq EReal (V1 m ρ c main_cst (ix1 f)) (Ideal.ofBits .f32 (lit0 (S128.rowMajor (ix1 f)))) := by
  show StableHlo.after hostOps0 (W0 m ρ c) (Proc.devRef .tc main_cst) (ix1 f) = _
  entry_read
  pointwise

/-- What the first stretch wrote is what the second stretch and the second call find. -/
theorem kept (c : Dev nD) : V3 m ρ c main_v3 = V1 m ρ c main_v3 ∧ V2 m ρ c main_v3 = V1 m ρ c main_v3
    ∧ V2 m ρ c main_cst = V1 m ρ c main_cst :=
  ⟨(W3_of m ρ c main_v3 (by decide)).trans (W2_of m ρ c main_v3 (by decide)), W2_of m ρ c main_v3 (by decide),
    W2_of m ρ c main_cst (by decide)⟩

/-- A row's number, from that of its tile and its place in it. -/
theorem tile (i : Fin 256) (h : i.val / 8 * 8 + i.val % 8 < 256) : (⟨i.val / 8 * 8 + i.val % 8, h⟩ : Fin 256) = i :=
  Fin.ext (Nat.div_add_mod' _ _)

/-- The rows' own coordinates the second call finds. -/
theorem own_at (c : Dev nD) (i : Fin 256) (k : Fin 8) :
    @Eq EReal (V3 m ρ c main_v12 (ix3 ⟨i.val / 8, by omega⟩ k ⟨i.val % 8, by omega⟩)) (V2 m ρ c main_v3 (ix2 i k)) := by
  show StableHlo.after hostOps1 (W2 m ρ c) (Proc.devRef .tc main_v12) (ix3 ⟨i.val / 8, by omega⟩ k ⟨i.val % 8, by omega⟩) = _
  entry_read
  pointwise
  rw [tile]

/-- The neighbours' weights the second call finds are the one-hot rows the first call left. -/
theorem hot_at (c : Dev nD) (k : Fin 3) (i x : Fin 256) :
    @Eq EReal (V3 m ρ c main_v10 (ix4 ⟨i.val / 8, by omega⟩ k x ⟨i.val % 8, by omega⟩))
      ((dat0 (V1 m ρ) c).arrAt 2 cfg0.N (ix3 k i x)) := by
  rw [← W2_arr m ρ c 2]
  show StableHlo.after hostOps1 (W2 m ρ c) (Proc.devRef .tc main_v10) (ix4 ⟨i.val / 8, by omega⟩ k x ⟨i.val % 8, by omega⟩) = _
  entry_read
  pointwise
  rw [tile]

/-- The distances the second call finds are those the first call left. -/
theorem dist_at (c : Dev nD) (i j : Fin 256) :
    @Eq EReal (V3 m ρ c main_v7 (ix3 ⟨i.val / 8, by omega⟩ j ⟨i.val % 8, by omega⟩)) ((dat0 (V1 m ρ) c).arrAt 1 cfg0.N (ix2 i j)) := by
  rw [← W2_arr m ρ c 1]
  show StableHlo.after hostOps1 (W2 m ρ c) (Proc.devRef .tc main_v7) (ix3 ⟨i.val / 8, by omega⟩ j ⟨i.val % 8, by omega⟩) = _
  entry_read
  pointwise
  rw [tile]

/-- The biases and frequencies the second call finds. -/
theorem small_at (c : Dev nD) (o : Fin 256) (f : Fin 128) :
    @Eq EReal (V3 m ρ c main_v19 (ix2 0 o)) (m ((c : Thread nD τ).loc main_arg2) (ix1 o))
      ∧ @Eq EReal (V3 m ρ c main_v20 (ix2 0 o)) (m ((c : Thread nD τ).loc main_arg4) (ix1 o))
      ∧ @Eq EReal (V3 m ρ c main_v21 (ix2 0 f)) (V2 m ρ c main_cst (ix1 f)) := by
  refine ⟨?_, ?_, ?_⟩
  · rw [← W2_args m ρ c main_arg2 (by decide)]
    show StableHlo.after hostOps1 (W2 m ρ c) (Proc.devRef .tc main_v19) (ix2 0 o) = _
    entry_read
    pointwise
  · rw [← W2_args m ρ c main_arg4 (by decide)]
    show StableHlo.after hostOps1 (W2 m ρ c) (Proc.devRef .tc main_v20) (ix2 0 o) = _
    entry_read
    pointwise
  · show StableHlo.after hostOps1 (W2 m ρ c) (Proc.devRef .tc main_v21) (ix2 0 f) = _
    entry_read
    pointwise

/-- The weights' columns as the second call finds them: the even ones, then the odd ones. -/
theorem weights_at (c : Dev nD) (o : Fin 256) (f : Fin 128) :
    @Eq EReal (V3 m ρ c main_v15 (ix2 o ⟨f.val, by omega⟩)) (m ((c : Thread nD τ).loc main_arg1) (ix2 o ⟨2 * f.val, by omega⟩))
      ∧ @Eq EReal (V3 m ρ c main_v15 (ix2 o ⟨128 + f.val, by omega⟩))
        (m ((c : Thread nD τ).loc main_arg1) (ix2 o ⟨1 + 2 * f.val, by omega⟩))
      ∧ @Eq EReal (V3 m ρ c main_v18 (ix2 o ⟨f.val, by omega⟩)) (m ((c : Thread nD τ).loc main_arg3) (ix2 o ⟨2 * f.val, by omega⟩))
      ∧ @Eq EReal (V3 m ρ c main_v18 (ix2 o ⟨128 + f.val, by omega⟩))
        (m ((c : Thread nD τ).loc main_arg3) (ix2 o ⟨1 + 2 * f.val, by omega⟩)) := by
  have lo : f.val < 128 := f.isLt
  have hi : ¬ 128 + f.val < 128 := by omega
  have sub : 128 + f.val - 128 = f.val := by omega
  refine ⟨?_, ?_, ?_, ?_⟩
  · rw [← W2_args m ρ c main_arg1 (by decide)]
    show StableHlo.after hostOps1 (W2 m ρ c) (Proc.devRef .tc main_v15) (ix2 o ⟨f.val, by omega⟩) = _
    entry_read
    pointwise
    try simp only [lo, dif_pos]
  · rw [← W2_args m ρ c main_arg1 (by decide)]
    show StableHlo.after hostOps1 (W2 m ρ c) (Proc.devRef .tc main_v15) (ix2 o ⟨128 + f.val, by omega⟩) = _
    entry_read
    pointwise
    try simp only [hi, dif_neg, not_false_eq_true, sub]
  · rw [← W2_args m ρ c main_arg3 (by decide)]
    show StableHlo.after hostOps1 (W2 m ρ c) (Proc.devRef .tc main_v18) (ix2 o ⟨f.val, by omega⟩) = _
    entry_read
    pointwise
    try simp only [lo, dif_pos]
  · rw [← W2_args m ρ c main_arg3 (by decide)]
    show StableHlo.after hostOps1 (W2 m ρ c) (Proc.devRef .tc main_v18) (ix2 o ⟨128 + f.val, by omega⟩) = _
    entry_read
    pointwise
    try simp only [hi, dif_neg, not_false_eq_true, sub]

end Cert.Host2

end
-- ==== Proof.Kernel2.lean ====
module

public import proofs.«01_k».proof.Proof.First2
public import proofs.«01_k».proof.Proof.Second2
public import proofs.«01_k».proof.Proof.Host2
public import proofs.«01_k».proof.Proof.Kernel

@[expose] public section

set_option maxRecDepth 16384

noncomputable section

/-! # What the second program leaves in its result -/

namespace Cert.Whole2

open Idealize.ShloMosaic Idealize.ShloMosaic.TcCoe Idealize.ShloMosaic.Tactic Cert.Kernel2Ideal Cert.Kernel2Ideal.Gen
open Idealize.SL Idealize.SL.RA Idealize.SL.BI Idealize.SL.BI.BIBase Idealize.SL.BI.Laws Idealize.SL.ProofMode Idealize.SL.Sem
open Idealize.ShloMosaic.Rounds
open scoped Idealize.SL.BI
open Cert.Maths Cert.Nearest Cert.Spec Cert.Body2 Cert.Second2 Cert.Host2
open Cert.Host (padded)
open Cert.Whole (padded_col sum_hot distance_of)

/-- The angle index the second call computes, its one-hot row being that of the neighbour. -/
theorem angle_of (p : Fin 256 → Fin 3 → EReal) (X : FVec Ideal S256x8 .f32) (P : FVec Ideal S32x8x8 .f32)
    (H : FVec Ideal S32x3x256x8 .f32) (k : Fin 3) (i j : Fin 256) (hX : ∀ i k, X (ix2 i k) = padded p i k)
    (hP : ∀ k, P (ix3 ⟨i.val / 8, by omega⟩ k ⟨i.val % 8, by omega⟩) = padded p i k)
    (hH : ∀ x, H (ix4 ⟨i.val / 8, by omega⟩ k x ⟨i.val % 8, by omega⟩) = if x = near p i (k.val + 1) then 1 else 0) :
    arrayAngle X P H k i j = angleIndex p i j k := by
  unfold arrayAngle angleIndex
  simp only [hX, hP, hH]
  have hc := padded_col p
  simp only [hc, sum_hot]

/-- The entry of the second call's result, from what its operands hold. -/
theorem cell_of (p : Fin 256 → Fin 3 → EReal) (div : Fin 128 → EReal) (wd wa : Fin 256 → EReal) (bd ba : EReal)
    (i j o : Fin 256) (X : FVec Ideal S256x8 .f32) (P : FVec Ideal S32x8x8 .f32) (D : FVec Ideal S32x256x8 .f32)
    (H : FVec Ideal S32x3x256x8 .f32) (Wd Wa : FVec Ideal S256x256 .f32) (vd va : FVec Ideal S1x256 .f32)
    (tab : FVec Ideal S1x128 .f32) (hX : ∀ i k, X (ix2 i k) = padded p i k)
    (hP : ∀ k, P (ix3 ⟨i.val / 8, by omega⟩ k ⟨i.val % 8, by omega⟩) = padded p i k)
    (hD : D (ix3 ⟨i.val / 8, by omega⟩ j ⟨i.val % 8, by omega⟩) = distance p i j)
    (hH : ∀ (k : Fin 3) x, H (ix4 ⟨i.val / 8, by omega⟩ k x ⟨i.val % 8, by omega⟩) = if x = near p i (k.val + 1) then 1 else 0)
    (h1 : ∀ f : Fin 128, Wd (ix2 o (lo f)) = wd ⟨2 * f.val, by omega⟩) (h2 : ∀ f : Fin 128, Wd (ix2 o (hi f)) = wd ⟨1 + 2 * f.val, by omega⟩)
    (h3 : ∀ f : Fin 128, Wa (ix2 o (lo f)) = wa ⟨2 * f.val, by omega⟩) (h4 : ∀ f : Fin 128, Wa (ix2 o (hi f)) = wa ⟨1 + 2 * f.val, by omega⟩)
    (h5 : vd (ix2 0 o) = bd) (h6 : va (ix2 0 o) = ba) (h7 : ∀ f, tab (ix2 0 f) = div f) :
    arrayCell X P D H Wd Wa vd va tab i j o = result Ideal.sin Ideal.cos p div wd wa bd ba i j := by
  unfold arrayCell cell result project distIndex
  rw [angle_of p X P H 0 i j hX hP (hH 0), angle_of p X P H 1 i j hX hP (hH 1), angle_of p X P H 2 i j hX hP (hH 2), hD, h5, h6]
  simp only [h1, h2, h3, h4, h7]

local notation "𝕄" => MT nD τ sig Unit (Elt Ideal) ℕ (UR sig nD τ) ℕ

variable (m : (ℓ : Loc nD τ sig) → Buf (Elt Ideal) ℓ) (ρ : Dev nD → PrngReg)

/-- The points of the launch memory. -/
abbrev pts (c : Dev nD) (i : Fin 256) (k : Fin 3) : EReal := m ((c : Thread nD τ).loc main_arg0) (ix3 0 i k)

/-- The table of frequencies. -/
abbrev table (f : Fin 128) : EReal := Ideal.ofBits .f32 (lit0 (S128.rowMajor (ix1 f)))

/-- The second program's result, as an array. -/
def resultArr (c : Dev nD) : FVec Ideal S1x256x256x256 .f32 := fun y =>
  result Ideal.sin Ideal.cos (pts m c) table (fun q => m ((c : Thread nD τ).loc main_arg1) (ix2 (y 3) q))
    (fun q => m ((c : Thread nD τ).loc main_arg3) (ix2 (y 3) q)) (m ((c : Thread nD τ).loc main_arg2) (ix1 (y 3)))
    (m ((c : Thread nD τ).loc main_arg4) (ix1 (y 3))) (y 1) (y 2)

/-- The entry of the second program's result. -/
theorem result_spec (c : Dev nD) (i j o : Fin 256) :
    resultAt (V3 m ρ) c i j o
      = result Ideal.sin Ideal.cos (pts m c) table (fun q => m ((c : Thread nD τ).loc main_arg1) (ix2 o q))
          (fun q => m ((c : Thread nD τ).loc main_arg3) (ix2 o q)) (m ((c : Thread nD τ).loc main_arg2) (ix1 o))
          (m ((c : Thread nD τ).loc main_arg4) (ix1 o)) i j := by
  obtain ⟨k3, k2, kc⟩ := kept m ρ c
  have dist (i j) := distance_of (pts m c) (V1 m ρ c main_v3) (points_at m ρ c) i j
  have sm (f) := small_at m ρ c o f
  have wt (f) := weights_at m ρ c o f
  refine cell_of _ _ _ _ _ _ i j o _ _ _ _ _ _ _ _ _ ?_ (fun k => (own_at m ρ c i k).trans ?_) ?_ ?_ (fun f => (wt f).1)
    (fun f => (wt f).2.1) (fun f => (wt f).2.2.1) (fun f => (wt f).2.2.2) (sm 0).1 (sm 0).2.1 (fun f => (sm f).2.2.trans ?_)
  · rw [k3]; exact points_at m ρ c
  · rw [k2]; exact points_at m ρ c i k
  · exact (dist_at m ρ c i j).trans ((First2.dist_arr _ c i j).trans (dist i j))
  · intro k x
    refine (hot_at m ρ c k i x).trans ((First2.hot_arr _ c k i x).trans ?_)
    rw [show (fun j => -Cert.KernelIdeal.Gen.k0_pay2 (F := Ideal) (V1 m ρ c main_v3) (ix2 i j)) = fun j => -distance (pts m c) i j from
      funext fun j => congrArg Neg.neg (dist i j)]
    rfl
  · rw [kc]; exact table_at m ρ c f

-- the launch theorem's implicit arguments are found by unifying types up to plain definitions
set_option backward.isDefEq.respectTransparency.types false in
/-- Every run of the second program program ends with `resultArr` in its result and its arguments unchanged. -/
theorem run : θ_run defs (onTc (τ := τ) (main (F := Ideal))) ⟨m, fun _ => 0, ρ⟩ (fun r => ∀ c : Dev nD,
      r.2.mem ((c.tc : Thread nD τ).loc main_v22) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨((h c _ (mem_uc main_v22 (by decide))).trans (W4_arr m ρ c 9)).trans
          ((result_arr (V3 m ρ) c).trans (funext fun y => result_spec m ρ c (y 1) (y 2) (y 3))),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.Whole2

end
-- ==== Proof.Ref2.lean ====
module

public import proofs.«01_k».proof.Proof.Gen.Reference2Ideal.Run
public import proofs.«01_k».proof.Proof.RefOut

@[expose] public section

set_option maxRecDepth 16384

noncomputable section

/-! # The second reference's result: its phases are the first one's -/

namespace Cert.Ref2

open Idealize.ShloMosaic Idealize.ShloMosaic.TcCoe Idealize.SL.Sem Idealize.ShloMosaic.StableHlo
open Cert.Maths Cert.Nearest Cert.Spec

/-- The phases of the distances depend on the points alone, and are those of the first reference. -/
theorem phase_d (V : Valuation Cert.Reference2Ideal.τ Cert.Reference2Ideal.sig (Elt Ideal))
    (V1 : Valuation Cert.ReferenceIdeal.τ Cert.ReferenceIdeal.sig (Elt Ideal))
    (h : @Eq (FVec Ideal Cert.ReferenceIdeal.S1x256x3 .f32) (V (Proc.devRef .tc Cert.Reference2Ideal.main_arg0))
      (V1 (Proc.devRef .tc Cert.ReferenceIdeal.main_arg0))) :
    @Eq (FVec Ideal Cert.ReferenceIdeal.S65536x128x1 .f32) (Cert.Reference2Ideal.Value.res_main_v84 V)
      (Cert.ReferenceIdeal.Value.res_main_v84 V1) := by
  unfold Cert.Reference2Ideal.Value.res_main_v84 Cert.ReferenceIdeal.Value.res_main_v84
    Cert.Reference2Ideal.Value.res_main_v19 Cert.ReferenceIdeal.Value.res_main_v19
  clean_types
  generalize (V (Proc.devRef .tc Cert.Reference2Ideal.main_arg0)) = x at h ⊢
  subst h
  rfl

/-- The phases of the angles depend on the points alone, and are those of the first reference. -/
theorem phase_a (V : Valuation Cert.Reference2Ideal.τ Cert.Reference2Ideal.sig (Elt Ideal))
    (V1 : Valuation Cert.ReferenceIdeal.τ Cert.ReferenceIdeal.sig (Elt Ideal))
    (h : @Eq (FVec Ideal Cert.ReferenceIdeal.S1x256x3 .f32) (V (Proc.devRef .tc Cert.Reference2Ideal.main_arg0))
      (V1 (Proc.devRef .tc Cert.ReferenceIdeal.main_arg0))) :
    @Eq (FVec Ideal Cert.ReferenceIdeal.S196608x128x1 .f32) (Cert.Reference2Ideal.Value.res_main_v98 V)
      (Cert.ReferenceIdeal.Value.res_main_v152 V1) := by
  unfold Cert.Reference2Ideal.Value.res_main_v98 Cert.ReferenceIdeal.Value.res_main_v152
    Cert.Reference2Ideal.Value.res_main_v69 Cert.ReferenceIdeal.Value.res_main_v69
    Cert.Reference2Ideal.Value.res_main_v56 Cert.ReferenceIdeal.Value.res_main_v56
    Cert.Reference2Ideal.Value.res_main_v54 Cert.ReferenceIdeal.Value.res_main_v54
    Cert.Reference2Ideal.Value.res_main_v52 Cert.ReferenceIdeal.Value.res_main_v52
    Cert.Reference2Ideal.Value.res_main_v50 Cert.ReferenceIdeal.Value.res_main_v50
    Cert.Reference2Ideal.Value.res_main_v48 Cert.ReferenceIdeal.Value.res_main_v48
    Cert.Reference2Ideal.Value.res_main_v46 Cert.ReferenceIdeal.Value.res_main_v46
    Cert.Reference2Ideal.Value.res_main_v44 Cert.ReferenceIdeal.Value.res_main_v44
    Cert.Reference2Ideal.Value.res_main_v43 Cert.ReferenceIdeal.Value.res_main_v43
    Cert.Reference2Ideal.Value.res_main_v40 Cert.ReferenceIdeal.Value.res_main_v40
    Cert.Reference2Ideal.Value.res_main_v39 Cert.ReferenceIdeal.Value.res_main_v39
    Cert.Reference2Ideal.Value.res_main_v23 Cert.ReferenceIdeal.Value.res_main_v23
    Cert.Reference2Ideal.Value.res_main_v22 Cert.ReferenceIdeal.Value.res_main_v22
    Cert.Reference2Ideal.Value.res_main_v19 Cert.ReferenceIdeal.Value.res_main_v19
  clean_types
  generalize (V (Proc.devRef .tc Cert.Reference2Ideal.main_arg0)) = x at h ⊢
  subst h
  rfl

/-- A valuation of the first reference with the points of one of the second. -/
def first (V : Valuation Cert.Reference2Ideal.τ Cert.Reference2Ideal.sig (Elt Ideal)) :
    Valuation Cert.ReferenceIdeal.τ Cert.ReferenceIdeal.sig (Elt Ideal) :=
  Function.update (fun _ _ => default) (Proc.devRef .tc Cert.ReferenceIdeal.main_arg0)
    (V (Proc.devRef .tc Cert.Reference2Ideal.main_arg0))

/-- It has them. -/
theorem first_points (V : Valuation Cert.Reference2Ideal.τ Cert.Reference2Ideal.sig (Elt Ideal)) :
    @Eq (FVec Ideal Cert.ReferenceIdeal.S1x256x3 .f32) (V (Proc.devRef .tc Cert.Reference2Ideal.main_arg0))
      (first V (Proc.devRef .tc Cert.ReferenceIdeal.main_arg0)) := by
  unfold first
  exact (Function.update_self (β := fun b : DevRef Cert.ReferenceIdeal.τ Cert.ReferenceIdeal.sig => b.ty.Contents (Elt Ideal))
    (Proc.devRef .tc Cert.ReferenceIdeal.main_arg0) _ _).symm

/-- The points. -/
abbrev pts (V : Valuation Cert.Reference2Ideal.τ Cert.Reference2Ideal.sig (Elt Ideal)) (i : Fin 256) (k : Fin 3) : EReal :=
  V (Proc.devRef .tc Cert.Reference2Ideal.main_arg0) (ix3 0 i k)

/-- An index's projection, the phase with the table's entry on the right. -/
theorem project_comm (S C : EReal → EReal) (div : Fin 128 → EReal) (w : Fin 256 → EReal) (x : EReal) :
    ∑ f : Fin 128, S (x * div f) * w ⟨2 * f.val, by omega⟩ + ∑ f : Fin 128, C (x * div f) * w ⟨1 + 2 * f.val, by omega⟩
      = project S C div w x := by
  unfold project emb
  simp only [mul_comm x]

/-- The second reference's result, from its phases. -/
def outOf (u : FVec Ideal Cert.ReferenceIdeal.S65536x128x1 .f32) (a : FVec Ideal Cert.ReferenceIdeal.S196608x128x1 .f32)
    (Wd Wa : FVec Ideal Cert.ReferenceIdeal.S256x256 .f32) (bd ba : FVec Ideal Cert.ReferenceIdeal.S256 .f32) :
    FVec Ideal Cert.ReferenceIdeal.S1x256x256x256 .f32 :=
  addf (RefOut.projD (Host.sin u) (Host.cos u) Wd bd)
    (Host.reduce FloatOps.maximumf (RefOut.projA (Host.sin a) (Host.cos a) Wa ba)
      (constant Cert.ReferenceIdeal.S_ .f32 0xFF800000#32) Cert.ReferenceIdeal.Gen.reducesTo_S1x256x256x3x256_S1x256x256x256_d3
      Cert.ReferenceIdeal.Gen.h_S_)

/-- It at an index, the phases being indices times frequencies. -/
theorem outOf_at (u : FVec Ideal Cert.ReferenceIdeal.S65536x128x1 .f32) (a : FVec Ideal Cert.ReferenceIdeal.S196608x128x1 .f32)
    (Wd Wa : FVec Ideal Cert.ReferenceIdeal.S256x256 .f32) (bd ba : FVec Ideal Cert.ReferenceIdeal.S256 .f32) (i j o : Fin 256)
    (p : Fin 256 → Fin 3 → EReal) (div : Fin 128 → EReal)
    (hu : ∀ f, u (ix3 ⟨i.val * 256 + j.val, by omega⟩ f 0) = distIndex p i j * div f)
    (ha : ∀ (k : Fin 3) f, a (ix3 ⟨i.val * 768 + j.val * 3 + k.val, by omega⟩ f 0) = angleIndex p i j k * div f) :
    outOf u a Wd Wa bd ba (ix4 0 i j o)
      = result Ideal.sin Ideal.cos p div (fun q => Wd (ix2 o q)) (fun q => Wa (ix2 o q)) (bd (ix1 o)) (ba (ix1 o)) i j := by
  have s (y) : Host.sin u y = Ideal.sin (u y) := rfl
  have c (y) : Host.cos u y = Ideal.cos (u y) := rfl
  have s' (y) : Host.sin a y = Ideal.sin (a y) := rfl
  have c' (y) : Host.cos a y = Ideal.cos (a y) := rfl
  have d := RefOut.projD_at (Host.sin u) (Host.cos u) Wd bd i j o
  have b (k : Fin 3) := RefOut.projA_at (Host.sin a) (Host.cos a) Wa ba i j o k
  simp only [s, c, hu] at d
  simp only [s', c', ha] at b
  unfold outOf result
  simp only [← project_comm]
  refine congrArg₂ (· + ·) d ((RefOut.maxA_at _ i j o).trans ?_)
  rw [b, b, b, max_add_add_right, max_add_add_right]

/-- The second reference's result at an index. -/
theorem out_at (V : Valuation Cert.Reference2Ideal.τ Cert.Reference2Ideal.sig (Elt Ideal)) (i j o : Fin 256)
    (hg : ∀ j, -distance (pts V) i j ≠ ⊥) :
    outOf (Cert.Reference2Ideal.Value.res_main_v84 V) (Cert.Reference2Ideal.Value.res_main_v98 V)
        (V (Proc.devRef .tc Cert.Reference2Ideal.main_arg1)) (V (Proc.devRef .tc Cert.Reference2Ideal.main_arg3))
        (V (Proc.devRef .tc Cert.Reference2Ideal.main_arg2)) (V (Proc.devRef .tc Cert.Reference2Ideal.main_arg4)) (ix4 0 i j o)
      = result Ideal.sin Ideal.cos (pts V) RefOut.table (fun q => V (Proc.devRef .tc Cert.Reference2Ideal.main_arg1) (ix2 o q))
          (fun q => V (Proc.devRef .tc Cert.Reference2Ideal.main_arg3) (ix2 o q))
          (V (Proc.devRef .tc Cert.Reference2Ideal.main_arg2) (ix1 o)) (V (Proc.devRef .tc Cert.Reference2Ideal.main_arg4) (ix1 o)) i j := by
  have hp : pts V = RefNear.pts (first V) := funext fun i => funext fun k => congrFun (first_points V) (ix3 0 i k)
  rw [hp] at hg ⊢
  refine outOf_at _ _ _ _ _ _ i j o _ _ (fun f => ?_) fun k f => ?_
  · exact (congrFun (phase_d V (first V) (first_points V)) _).trans (RefEmb.phase_ref (first V) i j f)
  · exact (congrFun (phase_a V (first V) (first_points V)) _).trans
      ((RefAngle.phase_ref (first V) i j k f hg).trans (by rw [RefOut.lit_eq]))

end Cert.Ref2

end
-- ==== Proof.Finite.lean ====
module

public import proofs.«01_k».proof.Pre_finite_points
public import proofs.«01_k».proof.Proof.Spec

@[expose] public section

noncomputable section

/-! # What finite points give -/

namespace Cert.Finite

open Idealize.ShloMosaic Cert.Pre_finite_points Cert.Spec

/-- The precondition's shape relation holds. -/
instance facts : Facts where
  bcast_S_S1x256x3 := by decide

/-- Under the precondition every coordinate is a real number. -/
theorem real_points (x : FVec Ideal S1x256x3 .f32) (a1 : FVec Ideal S256x256 .f32) (a2 : FVec Ideal S256 .f32)
    (a3 : FVec Ideal S256x256 .f32) (a4 : FVec Ideal S256 .f32) (h : fn (F := Ideal) x a1 a2 a3 a4 = fun _ => 1#1) :
    ∃ q : Fin 256 → Fin 3 → ℝ, ∀ i k, x (ix3 0 i k) = (q i k : EReal) := by
  have h1 (i : Fin 256) (k : Fin 3) : x (ix3 0 i k) ≠ ⊤ ∧ x (ix3 0 i k) ≠ ⊥ := by
    have h2 : BitVec.ofBool (decide (max (x (ix3 0 i k)) (-x (ix3 0 i k)) < Ideal.ofBits .f32 0x7F800000#32)) = 1#1 := congrFun h (ix3 0 i k)
    rw [show Ideal.ofBits .f32 0x7F800000#32 = ⊤ by simp [Ideal.ofBits, Ideal.ieee]] at h2
    constructor <;> intro e <;> rw [e] at h2 <;> simp at h2
  exact ⟨fun i k => (x (ix3 0 i k)).toReal, fun i k => (EReal.coe_toReal (h1 i k).1 (h1 i k).2).symm⟩

/-- Distances of real points are not infinite. -/
theorem distance_ne (p : Fin 256 → Fin 3 → EReal) (q : Fin 256 → Fin 3 → ℝ) (h : ∀ i k, p i k = (q i k : EReal)) (i j : Fin 256) :
    -distance p i j ≠ ⊥ := by
  have two : Ideal.ofBits .f32 0x40000000#32 = ((2 : ℝ) : EReal) := by
    simp [Ideal.ofBits, Ideal.ieee]
    rw [← EReal.coe_mul]
    norm_num
  have hd : distance p i j = ((Real.sqrt (max ((∑ k, q i k * q i k - 2 * ∑ k, q i k * q j k) + ∑ k, q j k * q j k) 0) : ℝ) : EReal) := by
    unfold distance
    simp only [h, two, Fin.sum_univ_three, ← EReal.coe_mul, ← EReal.coe_sub, ← EReal.coe_add, ← EReal.coe_zero]
    rw [← EReal.coe_strictMono.monotone.map_max]
    exact if_neg (not_lt.mpr (le_max_right _ _))
  rw [hd, ← EReal.coe_neg]
  exact EReal.coe_ne_bot _

end Cert.Finite

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Kernel
public import proofs.«01_k».proof.Proof.RefOut
public import proofs.«01_k».proof.Proof.Kernel2
public import proofs.«01_k».proof.Proof.Ref2
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The reference's program terminates with its arguments unchanged and every counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2,
    Idealize.ShloMosaic.sem_eq_zero_of_no_sems (by decide) r.2⟩) (Cert.ReferenceIdeal.Value.run m ρ)

/-- On finite points the reference's result is the kernel's. -/
theorem same (m : (ℓ : Loc Cert.KernelIdeal.nD Cert.KernelIdeal.τ Cert.KernelIdeal.sig) → Buf (Elt Ideal) ℓ)
    (c : Dev Cert.KernelIdeal.nD) (V : Valuation Cert.ReferenceIdeal.τ Cert.ReferenceIdeal.sig (Elt Ideal))
    (q : Fin 256 → Fin 3 → ℝ) (hq : ∀ i k, Cert.Whole.pts m c i k = (q i k : EReal))
    (h0 : V (Proc.devRef .tc Cert.ReferenceIdeal.main_arg0) = m ((c.tc : Thread Cert.KernelIdeal.nD Cert.KernelIdeal.τ).loc Cert.KernelIdeal.main_arg0))
    (h1 : V (Proc.devRef .tc Cert.ReferenceIdeal.main_arg1) = m ((c.tc : Thread Cert.KernelIdeal.nD Cert.KernelIdeal.τ).loc Cert.KernelIdeal.main_arg1))
    (h2 : V (Proc.devRef .tc Cert.ReferenceIdeal.main_arg2) = m ((c.tc : Thread Cert.KernelIdeal.nD Cert.KernelIdeal.τ).loc Cert.KernelIdeal.main_arg2))
    (h3 : V (Proc.devRef .tc Cert.ReferenceIdeal.main_arg3) = m ((c.tc : Thread Cert.KernelIdeal.nD Cert.KernelIdeal.τ).loc Cert.KernelIdeal.main_arg3))
    (h4 : V (Proc.devRef .tc Cert.ReferenceIdeal.main_arg4) = m ((c.tc : Thread Cert.KernelIdeal.nD Cert.KernelIdeal.τ).loc Cert.KernelIdeal.main_arg4)) :
    Cert.RefOut.refOut V = Cert.Whole.resultArr m c := by
  have hp : Cert.RefNear.pts V = Cert.Whole.pts m c := funext fun i => funext fun k => congrFun h0 (ix3 0 i k)
  funext y
  idx_vars y
  obtain rfl : y0 = 0 := Subsingleton.elim _ _
  rw [Cert.RefOut.refOut_at V y1 y2 y3 (fun j => Cert.Finite.distance_ne _ q (by rw [hp]; exact hq) y1 j), hp, h1, h2, h3, h4]
  rfl

/-- The kernel and the reference compute the same function of the arguments on finite points. -/
theorem algebraic : Cert.algebraic_KernelIdeal_ReferenceIdeal_pre_finite_points (hKernelIdeal := Cert.KernelIdeal.Gen.facts)
    (hReferenceIdeal := Cert.ReferenceIdeal.Gen.facts) (hPre_finite_points := Cert.Finite.facts) := by
  intro m g m' g' hpre hargs
  refine ⟨fun c => Cert.Whole.resultArr m c, Cert.Whole.run m g,
    (θ_run Cert.ReferenceIdeal.defs _ _).mono (fun r h c => ⟨(h c).1.trans ?_, (h c).2⟩) (Cert.ReferenceIdeal.Value.run (F := Ideal) m' g')⟩
  obtain ⟨q, hq⟩ := Cert.Finite.real_points _ _ _ _ _ (hpre c)
  exact same m c (Idealize.ShloMosaic.StableHlo.launchContents m' c) q hq (hargs c).1 (hargs c).2.1 (hargs c).2.2.1 (hargs c).2.2.2.1
    (hargs c).2.2.2.2

/-- The second reference's program terminates with its arguments unchanged and every counter at zero. -/
theorem frame_reference2 : Cert.quiescent_Reference2Ideal (hReference2Ideal := Cert.Reference2Ideal.Gen.facts) := fun m ρ _ =>
  (θ_run Cert.Reference2Ideal.defs _ _).mono (fun r h => ⟨fun c => (h c).2,
    Idealize.ShloMosaic.sem_eq_zero_of_no_sems (by decide) r.2⟩) (Cert.Reference2Ideal.Value.run m ρ)

/-- On finite points the second reference's result is the second program's. -/
theorem same2 (m : (ℓ : Loc Cert.Kernel2Ideal.nD Cert.Kernel2Ideal.τ Cert.Kernel2Ideal.sig) → Buf (Elt Ideal) ℓ)
    (c : Dev Cert.Kernel2Ideal.nD) (V : Valuation Cert.Reference2Ideal.τ Cert.Reference2Ideal.sig (Elt Ideal))
    (q : Fin 256 → Fin 3 → ℝ) (hq : ∀ i k, Cert.Whole2.pts m c i k = (q i k : EReal))
    (h0 : V (Proc.devRef .tc Cert.Reference2Ideal.main_arg0) = m ((c.tc : Thread Cert.Kernel2Ideal.nD Cert.Kernel2Ideal.τ).loc Cert.Kernel2Ideal.main_arg0))
    (h1 : V (Proc.devRef .tc Cert.Reference2Ideal.main_arg1) = m ((c.tc : Thread Cert.Kernel2Ideal.nD Cert.Kernel2Ideal.τ).loc Cert.Kernel2Ideal.main_arg1))
    (h2 : V (Proc.devRef .tc Cert.Reference2Ideal.main_arg2) = m ((c.tc : Thread Cert.Kernel2Ideal.nD Cert.Kernel2Ideal.τ).loc Cert.Kernel2Ideal.main_arg2))
    (h3 : V (Proc.devRef .tc Cert.Reference2Ideal.main_arg3) = m ((c.tc : Thread Cert.Kernel2Ideal.nD Cert.Kernel2Ideal.τ).loc Cert.Kernel2Ideal.main_arg3))
    (h4 : V (Proc.devRef .tc Cert.Reference2Ideal.main_arg4) = m ((c.tc : Thread Cert.Kernel2Ideal.nD Cert.Kernel2Ideal.τ).loc Cert.Kernel2Ideal.main_arg4)) :
    Cert.Ref2.outOf (Cert.Reference2Ideal.Value.res_main_v84 V) (Cert.Reference2Ideal.Value.res_main_v98 V)
        (V (Proc.devRef .tc Cert.Reference2Ideal.main_arg1)) (V (Proc.devRef .tc Cert.Reference2Ideal.main_arg3))
        (V (Proc.devRef .tc Cert.Reference2Ideal.main_arg2)) (V (Proc.devRef .tc Cert.Reference2Ideal.main_arg4))
      = Cert.Whole2.resultArr m c := by
  have hp : Cert.Ref2.pts V = Cert.Whole2.pts m c := funext fun i => funext fun k => congrFun h0 (ix3 0 i k)
  funext y
  idx_vars y
  obtain rfl : y0 = 0 := Subsingleton.elim _ _
  refine (Cert.Ref2.out_at V y1 y2 y3 (fun j => Cert.Finite.distance_ne _ q (by rw [hp]; exact hq) y1 j)).trans ?_
  rw [hp, h1, h2, h3, h4]
  rfl

/-- The second program and its reference compute the same function of the arguments on finite points. -/
theorem algebraic2 : Cert.algebraic_Kernel2Ideal_Reference2Ideal_pre_finite_points (hKernel2Ideal := Cert.Kernel2Ideal.Gen.facts)
    (hReference2Ideal := Cert.Reference2Ideal.Gen.facts) (hPre_finite_points := Cert.Finite.facts) := by
  intro m g m' g' hpre hargs
  refine ⟨fun c => Cert.Whole2.resultArr m c, Cert.Whole2.run m g,
    (θ_run Cert.Reference2Ideal.defs _ _).mono (fun r h c => ⟨(h c).1.trans ?_, (h c).2⟩) (Cert.Reference2Ideal.Value.run (F := Ideal) m' g')⟩
  obtain ⟨q, hq⟩ := Cert.Finite.real_points _ _ _ _ _ (hpre c)
  exact same2 m c (Idealize.ShloMosaic.StableHlo.launchContents m' c) q hq (hargs c).1 (hargs c).2.1 (hargs c).2.2.1 (hargs c).2.2.2.1
    (hargs c).2.2.2.2

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Finite.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, fun m ρ _ => Cert.Kernel2Ideal.Gen.frame m ρ,
  frame_reference2, fun m ρ _ => frame_reference2 m ρ trivial, trivial, algebraic, trivial, algebraic2⟩

end Cert.Proof

end
